-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_separated [hPre_separated : Cert.Pre_separated.Facts] (m : (ℓ : Loc Cert.KernelIdeal.nD Cert.KernelIdeal.τ Cert.KernelIdeal.sig) → Buf (Elt Ideal) ℓ) : Prop :=
  ∀ c : Dev Cert.KernelIdeal.nD,
    (Cert.Pre_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_separated [hPre_separated : Cert.Pre_separated.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_separated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_separated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_separated [hKernelIdeal : Cert.KernelIdeal.Facts] [hPre_separated : Cert.Pre_separated.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_separated m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_separated [hReferenceIdeal : Cert.ReferenceIdeal.Facts] [hPre_separated : Cert.Pre_separated.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_separated m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_separated [hKernelIdeal : Cert.KernelIdeal.Facts] [hReferenceIdeal : Cert.ReferenceIdeal.Facts] [hPre_separated : Cert.Pre_separated.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_separated m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_separated : Cert.Pre_separated.Facts),
    quiescent_Kernel (hKernel := hKernel)
    ∧ quiescent_KernelIdeal (hKernelIdeal := hKernelIdeal)
    ∧ quiescent_KernelIdeal_pre_separated (hKernelIdeal := hKernelIdeal) (hPre_separated := hPre_separated)
    ∧ quiescent_ReferenceIdeal (hReferenceIdeal := hReferenceIdeal)
    ∧ quiescent_ReferenceIdeal_pre_separated (hReferenceIdeal := hReferenceIdeal) (hPre_separated := hPre_separated)
    ∧ preserves_Kernel_KernelIdeal
    ∧ algebraic_KernelIdeal_ReferenceIdeal_pre_separated (hKernelIdeal := hKernelIdeal) (hReferenceIdeal := hReferenceIdeal) (hPre_separated := hPre_separated)
-- ==== Pre_separated.lean ====
abbrev S10000x512 : Shape := ⟨2, ![10000, 512]⟩
abbrev S512x512 : Shape := ⟨2, ![512, 512]⟩
abbrev S512 : Shape := ⟨1, ![512]⟩
abbrev S1x512 : Shape := ⟨2, ![1, 512]⟩
abbrev S_ : Shape := ⟨0, ![]⟩
abbrev S10000 : Shape := ⟨1, ![10000]⟩
abbrev S10000x1 : Shape := ⟨2, ![10000, 1]⟩
abbrev S512x10000 : Shape := ⟨2, ![512, 10000]⟩
abbrev S10000x10000 : Shape := ⟨2, ![10000, 10000]⟩
abbrev S10000x22 : Shape := ⟨2, ![10000, 22]⟩
abbrev S10000x21 : Shape := ⟨2, ![10000, 21]⟩
abbrev S10000x10112 : Shape := ⟨2, ![10000, 10112]⟩
abbrev S10000x79x128 : Shape := ⟨3, ![10000, 79, 128]⟩
abbrev S10000x128 : Shape := ⟨2, ![10000, 128]⟩

class Facts : Prop where
  bcast_S512_S1x512_1 : S512.BroadcastsInDim S1x512 (![1] : Fin 1 → Fin S1x512.rank)
  bcast_S1x512_S10000x512_0_1 : S1x512.BroadcastsInDim S10000x512 (![0, 1] : Fin 2 → Fin S10000x512.rank)
  bcast_S_S10000x512 : S_.BroadcastsInDim S10000x512 (![] : Fin 0 → Fin S10000x512.rank)
  reducesTo_S10000x512_S10000_d1 : S10000x512.ReducesTo [1] S10000
  h_S_ : 0 < S_.numel
  bcast_S10000_S10000x1_0 : S10000.BroadcastsInDim S10000x1 (![0] : Fin 1 → Fin S10000x1.rank)
  bcast_S_S10000x1 : S_.BroadcastsInDim S10000x1 (![] : Fin 0 → Fin S10000x1.rank)
  bcast_S10000x1_S10000x512_0_1 : S10000x1.BroadcastsInDim S10000x512 (![0, 1] : Fin 2 → Fin S10000x512.rank)
  transposes_S10000x512_S512x10000_1_0 : S10000x512.Transposes [1, 0] S512x10000
  sliceFits_S10000x10000_S10000x22 : S10000x10000.Slices (fun _ => 0) S10000x22
  slices_S10000x22_S10000x21_0_0 : S10000x22.Slices ![0, 0] S10000x21
  slices_S10000x22_S10000x21_0_1 : S10000x22.Slices ![0, 1] S10000x21
  slices_S10000x22_S10000x1_0_20 : S10000x22.Slices ![0, 20] S10000x1
  bcast_S10000x1_S10000x10000_0_1 : S10000x1.BroadcastsInDim S10000x10000 (![0, 1] : Fin 2 → Fin S10000x10000.rank)
  pads_S10000x10000_S10000x10112_000_01120 : S10000x10000.Pads (![0, 0] : Fin 2 → Nat) ![0, 112] ![0, 0] S10000x10112
  shapeCasts_S10000x10112_S10000x79x128 : S10000x10112.ShapeCasts S10000x79x128
  reducesTo_S10000x79x128_S10000x128_d1 : S10000x79x128.ReducesTo [1] S10000x128
  bcast_S_S10000x128 : S_.BroadcastsInDim S10000x128 (![] : Fin 0 → Fin S10000x128.rank)
  dot_S10000x512_S512x512_S10000x512_1_0_0_1_n_n_wf : DotDims.WF S10000x512 S512x512 S10000x512 [1] [0] [0] [1] [] []
  dot_S10000x512_S512x10000_S10000x10000_1_0_0_1_n_n_wf : DotDims.WF S10000x512 S512x10000 S10000x10000 [1] [0] [0] [1] [] []

variable [Facts]

def dot_S10000x512_S512x512_S10000x512_1_0_0_1_n_n : DotDims S10000x512 S512x512 S10000x512 where
  lhsContracting := [1]
  rhsContracting := [0]
  lhsNonContracting := [0]
  rhsNonContracting := [1]
  lhsBatch := []
  rhsBatch := []
  wf := dot_S10000x512_S512x512_S10000x512_1_0_0_1_n_n_wf
def dot_S10000x512_S512x10000_S10000x10000_1_0_0_1_n_n : DotDims S10000x512 S512x10000 S10000x10000 where
  lhsContracting := [1]
  rhsContracting := [0]
  lhsNonContracting := [0]
  rhsNonContracting := [1]
  lhsBatch := []
  rhsBatch := []
  wf := dot_S10000x512_S512x10000_S10000x10000_1_0_0_1_n_n_wf
def fn_part1 {F : FTy → Type} [FloatOps F] (main_v19 : FVec F S10000x10000 .f32) (main_values : FVec F S10000x22 .f32) : IVec S10000x21 1 × IVec S10000x128 1 :=
  let main_indices : IVec S10000x22 32 := (fun x => (Host.topK S10000x22 1 (FloatOps.cmpfTotal .gt) x sliceFits_S10000x10000_S10000x22).2) main_v19
  let main_v20 : FVec F S10000x21 .f32 := (extractStridedSlice S10000x21 ![0, 0] · slices_S10000x22_S10000x21_0_0) main_values
  let main_v21 : FVec F S10000x21 .f32 := (extractStridedSlice S10000x21 ![0, 1] · slices_S10000x22_S10000x21_0_1) main_values
  let main_v22 : IVec S10000x21 1 := cmpf .ogt main_v20 main_v21
  let main_v23 : FVec F S10000x1 .f32 := (extractStridedSlice S10000x1 ![0, 20] · slices_S10000x22_S10000x1_0_20) main_values
  let main_v24 : FVec F S10000x10000 .f32 := broadcastInDim S10000x10000 ![0, 1] bcast_S10000x1_S10000x10000_0_1 main_v23
  let main_v25 : IVec S10000x10000 1 := cmpf .oge main_v19 main_v24
  let main_v26 : FVec F S10000x10000 .f32 := uitofp .f32 main_v25
  let main_cst_2 : FVec F S_ .f32 := constant S_ .f32 0x00000000#32
  let main_v27 : FVec F S10000x10112 .f32 := (fun x v => pad S10000x10112 ![0, 0] ![0, 112] ![0, 0] x v pads_S10000x10000_S10000x10112_000_01120 h_S_) main_v26 main_cst_2
  let main_v28 : FVec F S10000x79x128 .f32 := shapeCast S10000x79x128 main_v27 shapeCasts_S10000x10112_S10000x79x128
  let main_cst_3 : FVec F S_ .f32 := constant S_ .f32 0x00000000#32
  let main_v29 : FVec F S10000x128 .f32 := (fun x v => Host.reduceAdd x v reducesTo_S10000x79x128_S10000x128_d1 h_S_) main_v28 main_cst_3
  let main_cst_4 : FVec F S_ .f32 := constant S_ .f32 0x40C00000#32
  let main_v30 : FVec F S10000x128 .f32 := broadcastInDim S10000x128 ![] bcast_S_S10000x128 main_cst_4
  let main_v31 : IVec S10000x128 1 := cmpf .ole main_v29 main_v30
  (main_v22, main_v31)

def fn {F : FTy → Type} [FloatOps F] (main_arg0 : FVec F S10000x512 .f32) (main_arg1 : FVec F S512x512 .f32) (main_arg2 : FVec F S512 .f32) (main_arg3 : FVec F S512x512 .f32) (main_arg4 : FVec F S512 .f32) : IVec S10000x21 1 × IVec S10000x128 1 :=
  let main_v0 : FVec F S10000x512 .f32 := (fun l r => Host.dotGeneral dot_S10000x512_S512x512_S10000x512_1_0_0_1_n_n none l r) main_arg0 main_arg1
  let main_v1 : FVec F S1x512 .f32 := broadcastInDim S1x512 ![1] bcast_S512_S1x512_1 main_arg2
  let main_v2 : FVec F S10000x512 .f32 := broadcastInDim S10000x512 ![0, 1] bcast_S1x512_S10000x512_0_1 main_v1
  let main_v3 : FVec F S10000x512 .f32 := addf main_v0 main_v2
  let main_cst : FVec F S_ .f32 := constant S_ .f32 0x00000000#32
  let main_v4 : FVec F S10000x512 .f32 := broadcastInDim S10000x512 ![] bcast_S_S10000x512 main_cst
  let main_v5 : FVec F S10000x512 .f32 := maximumf main_v3 main_v4
  let main_v6 : FVec F S10000x512 .f32 := (fun l r => Host.dotGeneral dot_S10000x512_S512x512_S10000x512_1_0_0_1_n_n none l r) main_v5 main_arg3
  let main_v7 : FVec F S1x512 .f32 := broadcastInDim S1x512 ![1] bcast_S512_S1x512_1 main_arg4
  let main_v8 : FVec F S10000x512 .f32 := broadcastInDim S10000x512 ![0, 1] bcast_S1x512_S10000x512_0_1 main_v7
  let main_v9 : FVec F S10000x512 .f32 := addf main_v6 main_v8
  let main_v10 : FVec F S10000x512 .f32 := mulf main_v9 main_v9
  let main_cst_0 : FVec F S_ .f32 := constant S_ .f32 0x00000000#32
  let main_v11 : FVec F S10000 .f32 := (fun x v => Host.reduceAdd x v reducesTo_S10000x512_S10000_d1 h_S_) main_v10 main_cst_0
  let main_v12 : FVec F S10000x1 .f32 := broadcastInDim S10000x1 ![0] bcast_S10000_S10000x1_0 main_v11
  let main_v13 : FVec F S10000x1 .f32 := Host.sqrt main_v12
  let main_cst_1 : FVec F S_ .f32 := constant S_ .f32 0x2B8CBCCC#32
  let main_v14 : FVec F S10000x1 .f32 := broadcastInDim S10000x1 ![] bcast_S_S10000x1 main_cst_1
  let main_v15 : FVec F S10000x1 .f32 := maximumf main_v13 main_v14
  let main_v16 : FVec F S10000x512 .f32 := broadcastInDim S10000x512 ![0, 1] bcast_S10000x1_S10000x512_0_1 main_v15
  let main_v17 : FVec F S10000x512 .f32 := Host.divf main_v9 main_v16
  let main_v18 : FVec F S512x10000 .f32 := (transpose S512x10000 [1, 0] · transposes_S10000x512_S512x10000_1_0) main_v17
  let main_v19 : FVec F S10000x10000 .f32 := (fun l r => Host.dotGeneral dot_S10000x512_S512x10000_S10000x10000_1_0_0_1_n_n none l r) main_v17 main_v18
  let main_values : FVec F S10000x22 .f32 := (fun x => (Host.topK S10000x22 1 (FloatOps.cmpfTotal .gt) x sliceFits_S10000x10000_S10000x22).1) main_v19
  fn_part1 (F := F) main_v19 main_values
-- ==== Kernel.lean ====
abbrev S10000x512 : Shape := ⟨2, ![10000, 512]⟩
abbrev S512x512 : Shape := ⟨2, ![512, 512]⟩
abbrev S512 : Shape := ⟨1, ![512]⟩
abbrev S1x512 : Shape := ⟨2, ![1, 512]⟩
abbrev S2000x512 : Shape := ⟨2, ![2000, 512]⟩
abbrev S2000 : Shape := ⟨1, ![2000]⟩
abbrev S2000x1 : Shape := ⟨2, ![2000, 1]⟩
abbrev S10000x10000 : Shape := ⟨2, ![10000, 10000]⟩
abbrev S10000x1 : Shape := ⟨2, ![10000, 1]⟩
abbrev S1x10000 : Shape := ⟨2, ![1, 10000]⟩
abbrev S80x512 : Shape := ⟨2, ![80, 512]⟩
abbrev S80x10000 : Shape := ⟨2, ![80, 10000]⟩
abbrev S80x1 : Shape := ⟨2, ![80, 1]⟩
abbrev S80x128 : Shape := ⟨2, ![80, 128]⟩
abbrev S80x16 : Shape := ⟨2, ![80, 16]⟩
abbrev S80x112 : Shape := ⟨2, ![80, 112]⟩
abbrev S80x768 : Shape := ⟨2, ![80, 768]⟩
abbrev S80 : Shape := ⟨1, ![80]⟩
abbrev S10000 : Shape := ⟨1, ![10000]⟩

abbrev nBuf : Space → Nat
  | .hbm => 16
  | .vmem => 31
  | .smem => 0
  | _ => 0

abbrev bufTy : (tb : Table) → Fin (tcTables nBuf tb) → BufTy
  | .hbm, ⟨0, _⟩ => ⟨S10000x512, .f32⟩
  | .hbm, ⟨1, _⟩ => ⟨S512x512, .f32⟩
  | .hbm, ⟨2, _⟩ => ⟨S512, .f32⟩
  | .hbm, ⟨3, _⟩ => ⟨S512x512, .f32⟩
  | .hbm, ⟨4, _⟩ => ⟨S512, .f32⟩
  | .hbm, ⟨5, _⟩ => ⟨S1x512, .f32⟩
  | .hbm, ⟨6, _⟩ => ⟨S1x512, .f32⟩
  | .hbm, ⟨7, _⟩ => ⟨S10000x512, .f32⟩
  | .hbm, ⟨8, _⟩ => ⟨S10000x10000, .f32⟩
  | .hbm, ⟨9, _⟩ => ⟨S10000x1, .f32⟩
  | .hbm, ⟨10, _⟩ => ⟨S10000x1, .f32⟩
  | .hbm, ⟨11, _⟩ => ⟨S1x10000, .f32⟩
  | .hbm, ⟨12, _⟩ => ⟨S1x10000, .f32⟩
  | .hbm, ⟨13, _⟩ => ⟨S1x10000, .f32⟩
  | .hbm, ⟨14, _⟩ => ⟨S10000x1, .f32⟩
  | .hbm, ⟨15, _⟩ => ⟨S10000x10000, .f32⟩
  | .local _ .vmem, ⟨0, _⟩ => ⟨S2000x512, .f32⟩
  | .local _ .vmem, ⟨1, _⟩ => ⟨S2000x512, .f32⟩
  | .local _ .vmem, ⟨2, _⟩ => ⟨S512x512, .f32⟩
  | .local _ .vmem, ⟨3, _⟩ => ⟨S1x512, .f32⟩
  | .local _ .vmem, ⟨4, _⟩ => ⟨S512x512, .f32⟩
  | .local _ .vmem, ⟨5, _⟩ => ⟨S1x512, .f32⟩
  | .local _ .vmem, ⟨6, _⟩ => ⟨S2000x512, .f32⟩
  | .local _ .vmem, ⟨7, _⟩ => ⟨S2000x512, .f32⟩
  | .local _ .vmem, ⟨8, _⟩ => ⟨S80x512, .f32⟩
  | .local _ .vmem, ⟨9, _⟩ => ⟨S80x512, .f32⟩
  | .local _ .vmem, ⟨10, _⟩ => ⟨S10000x512, .f32⟩
  | .local _ .vmem, ⟨11, _⟩ => ⟨S80x10000, .f32⟩
  | .local _ .vmem, ⟨12, _⟩ => ⟨S80x10000, .f32⟩
  | .local _ .vmem, ⟨13, _⟩ => ⟨S80x1, .f32⟩
  | .local _ .vmem, ⟨14, _⟩ => ⟨S80x1, .f32⟩
  | .local _ .vmem, ⟨15, _⟩ => ⟨S80x1, .f32⟩
  | .local _ .vmem, ⟨16, _⟩ => ⟨S80x1, .f32⟩
  | .local _ .vmem, ⟨17, _⟩ => ⟨S1x10000, .f32⟩
  | .local _ .vmem, ⟨18, _⟩ => ⟨S80x10000, .f32⟩
  | .local _ .vmem, ⟨19, _⟩ => ⟨S80x10000, .f32⟩
  | .local _ .vmem, ⟨20, _⟩ => ⟨S80x1, .f32⟩
  | .local _ .vmem, ⟨21, _⟩ => ⟨S80x1, .f32⟩
  | .local _ .vmem, ⟨22, _⟩ => ⟨S1x10000, .f32⟩
  | .local _ .vmem, ⟨23, _⟩ => ⟨S80x1, .f32⟩
  | .local _ .vmem, ⟨24, _⟩ => ⟨S80x1, .f32⟩
  | .local _ .vmem, ⟨25, _⟩ => ⟨S80x1, .f32⟩
  | .local _ .vmem, ⟨26, _⟩ => ⟨S80x1, .f32⟩
  | .local _ .vmem, ⟨27, _⟩ => ⟨S1x10000, .f32⟩
  | .local _ .vmem, ⟨28, _⟩ => ⟨S1x10000, .f32⟩
  | .local _ .vmem, ⟨29, _⟩ => ⟨S80x10000, .f32⟩
  | .local _ .vmem, ⟨30, _⟩ => ⟨S80x10000, .f32⟩
  | _, _ => ⟨S10000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg4_0 : Ref sig .tc := ⟨.vmem, 15, rfl⟩
abbrev cc1_stg4_1 : Ref sig .tc := ⟨.vmem, 16, rfl⟩
abbrev cc1_stg5_0 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg3_1 : Ref sig .tc := ⟨.vmem, 24, rfl⟩
abbrev cc2_stg4_0 : Ref sig .tc := ⟨.vmem, 25, rfl⟩
abbrev cc2_stg4_1 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg7_0 : Ref sig .tc := ⟨.vmem, 29, rfl⟩
abbrev cc2_stg7_1 : Ref sig .tc := ⟨.vmem, 30, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem2_1 : DmaSem sig := 12
abbrev cc1_sem3_0 : DmaSem sig := 13
abbrev cc1_sem3_1 : DmaSem sig := 14
abbrev cc1_sem4_0 : DmaSem sig := 15
abbrev cc1_sem4_1 : DmaSem sig := 16
abbrev cc1_sem5_0 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem3_1 : DmaSem sig := 24
abbrev cc2_sem4_0 : DmaSem sig := 25
abbrev cc2_sem4_1 : DmaSem sig := 26
abbrev cc2_sem5_0 : DmaSem sig := 27
abbrev cc2_sem6_0 : DmaSem sig := 28
abbrev cc2_sem7_0 : DmaSem sig := 29
abbrev cc2_sem7_1 : DmaSem sig := 30

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![125], ![false]⟩

@[reducible] def k1_t1_loop : Scf.Loop 32 :=
  let c0_i32 : BitVec 32 := 0#32
  let c78_i32 : BitVec 32 := 78#32
  let v21 : BitVec 32 := Scalar.addi c0_i32 c78_i32
  let c1_i32 : BitVec 32 := 1#32
  ⟨c0_i32, v21, c1_i32⟩
def k1_off1 (k1_t1 : Fin k1_t1_loop.trips) : Fin 2 → Nat :=
  let c0_33 : Index := 0#32
  let c0_i32 : BitVec 32 := 0#32
  let c1_i32 : BitVec 32 := 1#32
  let arg7 : BitVec 32 := Scf.iv c0_i32 c1_i32 k1_t1
  let c128_i32 : BitVec 32 := 128#32
  let v62 : BitVec 32 := Scalar.muli arg7 c128_i32
  let v63 : Index := Scalar.indexCast v62
  ![0, v63.toNat]
@[reducible] def k1_t2_loop : Scf.Loop 32 :=
  let c0_i32_16 : BitVec 32 := 0#32
  let c20_i32 : BitVec 32 := 20#32
  let v41 : BitVec 32 := Scalar.addi c0_i32_16 c20_i32
  let c1_i32_17 : BitVec 32 := 1#32
  ⟨c0_i32_16, v41, c1_i32_17⟩
def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S80x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S80x10000 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S80x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S80x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S1x10000 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev grid2 : Pipeline.Grid := ⟨1, ![125], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S80x10000 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S80x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x10000 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S80x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S80x1 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 1 → Memref sig .tc .vmem S1x10000 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x10000 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S80x10000 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]
-- ==== ReferenceIdeal.lean ====
abbrev S10000x512 : Shape := ⟨2, ![10000, 512]⟩
abbrev S512x512 : Shape := ⟨2, ![512, 512]⟩
abbrev S512 : Shape := ⟨1, ![512]⟩
abbrev S1x512 : Shape := ⟨2, ![1, 512]⟩
abbrev S_ : Shape := ⟨0, ![]⟩
abbrev S10000 : Shape := ⟨1, ![10000]⟩
abbrev S10000x1 : Shape := ⟨2, ![10000, 1]⟩
abbrev S512x10000 : Shape := ⟨2, ![512, 10000]⟩
abbrev S10000x10000 : Shape := ⟨2, ![10000, 10000]⟩
abbrev S10000x21 : Shape := ⟨2, ![10000, 21]⟩
abbrev S10000x21x1 : Shape := ⟨3, ![10000, 21, 1]⟩
abbrev S10000x21x2 : Shape := ⟨3, ![10000, 21, 2]⟩
abbrev S1x10000 : Shape := ⟨2, ![1, 10000]⟩

abbrev nBuf : Space → Nat
  | .hbm => 100
  | .vmem => 0
  | .smem => 0
  | _ => 0

abbrev bufTy : (tb : Table) → Fin (tcTables nBuf tb) → BufTy
  | .hbm, ⟨0, _⟩ => ⟨S10000x512, .f32⟩
  | .hbm, ⟨1, _⟩ => ⟨S512x512, .f32⟩
  | .hbm, ⟨2, _⟩ => ⟨S512, .f32⟩
  | .hbm, ⟨3, _⟩ => ⟨S512x512, .f32⟩
  | .hbm, ⟨4, _⟩ => ⟨S512, .f32⟩
  | .hbm, ⟨5, _⟩ => ⟨S10000x512, .f32⟩
  | .hbm, ⟨6, _⟩ => ⟨S1x512, .f32⟩
  | .hbm, ⟨7, _⟩ => ⟨S10000x512, .f32⟩
  | .hbm, ⟨8, _⟩ => ⟨S10000x512, .f32⟩
  | .hbm, ⟨9, _⟩ => ⟨S_, .f32⟩
  | .hbm, ⟨10, _⟩ => ⟨S10000x512, .f32⟩
  | .hbm, ⟨11, _⟩ => ⟨S10000x512, .f32⟩
  | .hbm, ⟨12, _⟩ => ⟨S10000x512, .f32⟩
  | .hbm, ⟨13, _⟩ => ⟨S1x512, .f32⟩
  | .hbm, ⟨14, _⟩ => ⟨S10000x512, .f32⟩
  | .hbm, ⟨15, _⟩ => ⟨S10000x512, .f32⟩
  | .hbm, ⟨16, _⟩ => ⟨S10000x512, .f32⟩
  | .hbm, ⟨17, _⟩ => ⟨S_, .f32⟩
  | .hbm, ⟨18, _⟩ => ⟨S10000, .f32⟩
  | .hbm, ⟨19, _⟩ => ⟨S10000x1, .f32⟩
  | .hbm, ⟨20, _⟩ => ⟨S10000x1, .f32⟩
  | .hbm, ⟨21, _⟩ => ⟨S_, .f32⟩
  | .hbm, ⟨22, _⟩ => ⟨S10000x1, .f32⟩
  | .hbm, ⟨23, _⟩ => ⟨S10000x1, .f32⟩
  | .hbm, ⟨24, _⟩ => ⟨S10000x512, .f32⟩
  | .hbm, ⟨25, _⟩ => ⟨S10000x512, .f32⟩
  | .hbm, ⟨26, _⟩ => ⟨S512x10000, .f32⟩
  | .hbm, ⟨27, _⟩ => ⟨S10000x10000, .f32⟩
  | .hbm, ⟨28, _⟩ => ⟨S10000x21, .f32⟩
  | .hbm, ⟨29, _⟩ => ⟨S10000x21, .i32⟩
  | .hbm, ⟨30, _⟩ => ⟨S10000, .i32⟩
  | .hbm, ⟨31, _⟩ => ⟨S10000x1, .i32⟩
  | .hbm, ⟨32, _⟩ => ⟨S_, .f32⟩
  | .hbm, ⟨33, _⟩ => ⟨S10000x10000, .f32⟩
  | .hbm, ⟨34, _⟩ => ⟨S_, .i32⟩
  | .hbm, ⟨35, _⟩ => ⟨S10000x1, .i32⟩
  | .hbm, ⟨36, _⟩ => ⟨S10000x1, .i1⟩
  | .hbm, ⟨37, _⟩ => ⟨S_, .i32⟩
  | .hbm, ⟨38, _⟩ => ⟨S10000x1, .i32⟩
  | .hbm, ⟨39, _⟩ => ⟨S10000x1, .i32⟩
  | .hbm, ⟨40, _⟩ => ⟨S10000x1, .i32⟩
  | .hbm, ⟨41, _⟩ => ⟨S_, .i32⟩
  | .hbm, ⟨42, _⟩ => ⟨S10000x21, .i32⟩
  | .hbm, ⟨43, _⟩ => ⟨S10000x21, .i1⟩
  | .hbm, ⟨44, _⟩ => ⟨S_, .i32⟩
  | .hbm, ⟨45, _⟩ => ⟨S10000x21, .i32⟩
  | .hbm, ⟨46, _⟩ => ⟨S10000x21, .i32⟩
  | .hbm, ⟨47, _⟩ => ⟨S10000x21, .i32⟩
  | .hbm, ⟨48, _⟩ => ⟨S10000x21, .i32⟩
  | .hbm, ⟨49, _⟩ => ⟨S10000x21x1, .i32⟩
  | .hbm, ⟨50, _⟩ => ⟨S10000x21x1, .i32⟩
  | .hbm, ⟨51, _⟩ => ⟨S10000x21x2, .i32⟩
  | .hbm, ⟨52, _⟩ => ⟨S_, .f32⟩
  | .hbm, ⟨53, _⟩ => ⟨S10000x21, .f32⟩
  | .hbm, ⟨54, _⟩ => ⟨S10000x10000, .f32⟩
  | .hbm, ⟨55, _⟩ => ⟨S10000x10000, .f32⟩
  | .hbm, ⟨56, _⟩ => ⟨S_, .f32⟩
  | .hbm, ⟨57, _⟩ => ⟨S10000x10000, .f32⟩
  | .hbm, ⟨58, _⟩ => ⟨S10000x10000, .f32⟩
  | .hbm, ⟨59, _⟩ => ⟨S_, .f32⟩
  | .hbm, ⟨60, _⟩ => ⟨S10000x10000, .f32⟩
  | .hbm, ⟨61, _⟩ => ⟨S10000x10000, .f32⟩
  | .hbm, ⟨62, _⟩ => ⟨S_, .f32⟩
  | .hbm, ⟨63, _⟩ => ⟨S10000x10000, .f32⟩
  | .hbm, ⟨64, _⟩ => ⟨S10000x10000, .i1⟩
  | .hbm, ⟨65, _⟩ => ⟨S_, .f32⟩
  | .hbm, ⟨66, _⟩ => ⟨S10000x10000, .f32⟩
  | .hbm, ⟨67, _⟩ => ⟨S10000x10000, .i1⟩
  | .hbm, ⟨68, _⟩ => ⟨S_, .f32⟩
  | .hbm, ⟨69, _⟩ => ⟨S_, .f32⟩
  | .hbm, ⟨70, _⟩ => ⟨S10000x10000, .f32⟩
  | .hbm, ⟨71, _⟩ => ⟨S10000x10000, .f32⟩
  | .hbm, ⟨72, _⟩ => ⟨S10000x10000, .f32⟩
  | .hbm, ⟨73, _⟩ => ⟨S_, .f32⟩
  | .hbm, ⟨74, _⟩ => ⟨S10000x10000, .f32⟩
  | .hbm, ⟨75, _⟩ => ⟨S10000x10000, .f32⟩
  | .hbm, ⟨76, _⟩ => ⟨S10000x10000, .f32⟩
  | .hbm, ⟨77, _⟩ => ⟨S_, .f32⟩
  | .hbm, ⟨78, _⟩ => ⟨S10000x10000, .f32⟩
  | .hbm, ⟨79, _⟩ => ⟨S10000x10000, .f32⟩
  | .hbm, ⟨80, _⟩ => ⟨S10000x10000, .f32⟩
  | .hbm, ⟨81, _⟩ => ⟨S10000x10000, .f32⟩
  | .hbm, ⟨82, _⟩ => ⟨S_, .f32⟩
  | .hbm, ⟨83, _⟩ => ⟨S10000x10000, .f32⟩
  | .hbm, ⟨84, _⟩ => ⟨S10000x10000, .f32⟩
  | .hbm, ⟨85, _⟩ => ⟨S_, .f32⟩
  | .hbm, ⟨86, _⟩ => ⟨S10000, .f32⟩
  | .hbm, ⟨87, _⟩ => ⟨S10000, .f32⟩
  | .hbm, ⟨88, _⟩ => ⟨S_, .f32⟩
  | .hbm, ⟨89, _⟩ => ⟨S10000, .f32⟩
  | .hbm, ⟨90, _⟩ => ⟨S10000, .f32⟩
  | .hbm, ⟨91, _⟩ => ⟨S_, .f32⟩
  | .hbm, ⟨92, _⟩ => ⟨S10000, .f32⟩
  | .hbm, ⟨93, _⟩ => ⟨S10000, .f32⟩
  | .hbm, ⟨94, _⟩ => ⟨S10000x1, .f32⟩
  | .hbm, ⟨95, _⟩ => ⟨S10000x10000, .f32⟩
  | .hbm, ⟨96, _⟩ => ⟨S10000x10000, .f32⟩
  | .hbm, ⟨97, _⟩ => ⟨S1x10000, .f32⟩
  | .hbm, ⟨98, _⟩ => ⟨S10000x10000, .f32⟩
  | .hbm, ⟨99, _⟩ => ⟨S10000x10000, .f32⟩
  | _, _ => ⟨S10000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_cst : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_call1_v0 : Ref sig .tc := ⟨.hbm, 16, rfl⟩
abbrev main_call1_cst : Ref sig .tc := ⟨.hbm, 17, rfl⟩
abbrev main_call1_v1 : Ref sig .tc := ⟨.hbm, 18, rfl⟩
abbrev main_call1_v2 : Ref sig .tc := ⟨.hbm, 19, rfl⟩
abbrev main_v9 : Ref sig .tc := ⟨.hbm, 20, rfl⟩
abbrev main_cst : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_values : Ref sig .tc := ⟨.hbm, 28, rfl⟩
abbrev main_indices : Ref sig .tc := ⟨.hbm, 29, rfl⟩
abbrev main_v16 : Ref sig .tc := ⟨.hbm, 30, rfl⟩
abbrev main_v17 : Ref sig .tc := ⟨.hbm, 31, rfl⟩
abbrev main_cst_0 : Ref sig .tc := ⟨.hbm, 32, rfl⟩
abbrev main_v18 : Ref sig .tc := ⟨.hbm, 33, rfl⟩
abbrev main_c : Ref sig .tc := ⟨.hbm, 34, rfl⟩
abbrev main_v19 : Ref sig .tc := ⟨.hbm, 35, rfl⟩
abbrev main_v20 : Ref sig .tc := ⟨.hbm, 36, rfl⟩
abbrev main_c_1 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_2 : Ref sig .tc := ⟨.hbm, 41, rfl⟩
abbrev main_v24 : Ref sig .tc := ⟨.hbm, 42, rfl⟩
abbrev main_v25 : Ref sig .tc := ⟨.hbm, 43, rfl⟩
abbrev main_c_3 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_4 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_5 : Ref sig .tc := ⟨.hbm, 56, rfl⟩
abbrev main_v36 : Ref sig .tc := ⟨.hbm, 57, rfl⟩
abbrev main_v37 : Ref sig .tc := ⟨.hbm, 58, rfl⟩
abbrev main_cst_6 : Ref sig .tc := ⟨.hbm, 59, rfl⟩
abbrev main_v38 : Ref sig .tc := ⟨.hbm, 60, rfl⟩
abbrev main_v39 : Ref sig .tc := ⟨.hbm, 61, rfl⟩
abbrev main_call2_cst : Ref sig .tc := ⟨.hbm, 62, rfl⟩
abbrev main_call2_v0 : Ref sig .tc := ⟨.hbm, 63, rfl⟩
abbrev main_call2_v1 : Ref sig .tc := ⟨.hbm, 64, rfl⟩
abbrev main_call2_cst_0 : Ref sig .tc := ⟨.hbm, 65, rfl⟩
abbrev main_call2_v2 : Ref sig .tc := ⟨.hbm, 66, rfl⟩
abbrev main_call2_v3 : Ref sig .tc := ⟨.hbm, 67, rfl⟩
abbrev main_call2_cst_1 : Ref sig .tc := ⟨.hbm, 68, rfl⟩
abbrev main_call2_call0_v0 : Ref sig .tc := ⟨.hbm, 69, rfl⟩
abbrev main_call2_call0_v1 : Ref sig .tc := ⟨.hbm, 70, rfl⟩
abbrev main_call2_v4 : Ref sig .tc := ⟨.hbm, 71, rfl⟩
abbrev main_call2_v5 : Ref sig .tc := ⟨.hbm, 72, rfl⟩
abbrev main_call2_cst_2 : Ref sig .tc := ⟨.hbm, 73, rfl⟩
abbrev main_call2_v6 : Ref sig .tc := ⟨.hbm, 74, rfl⟩
abbrev main_call2_v7 : Ref sig .tc := ⟨.hbm, 75, rfl⟩
abbrev main_v40 : Ref sig .tc := ⟨.hbm, 76, rfl⟩
abbrev main_cst_7 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_cst_8 : Ref sig .tc := ⟨.hbm, 82, rfl⟩
abbrev main_v45 : Ref sig .tc := ⟨.hbm, 83, rfl⟩
abbrev main_v46 : Ref sig .tc := ⟨.hbm, 84, rfl⟩
abbrev main_cst_9 : Ref sig .tc := ⟨.hbm, 85, rfl⟩
abbrev main_v47 : Ref sig .tc := ⟨.hbm, 86, rfl⟩
abbrev main_v48 : Ref sig .tc := ⟨.hbm, 87, rfl⟩
abbrev main_cst_10 : Ref sig .tc := ⟨.hbm, 88, rfl⟩
abbrev main_v49 : Ref sig .tc := ⟨.hbm, 89, rfl⟩
abbrev main_v50 : Ref sig .tc := ⟨.hbm, 90, rfl⟩
abbrev main_cst_11 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩

abbrev nD : Nat := 1
abbrev τ : Topo := Topo.v7x

variable {F : FTy → Type} [FloatOps F]
-- ==== Proof.Maths.lean ====
/-
  The mathematics of one row, with no program in it: a network that keeps the six greatest values of a sequence, the
  next smaller value found again and again by a maximum, the activation and its order, and the algebra of the
  degrees — all over the extended reals.
-/
module

public import Idealize.ShloMosaic.PureOps.Ideal.Laws
public import Mathlib.Data.EReal.Operations
public import Mathlib.Algebra.Order.BigOperators.Group.Finset

@[expose] public section

noncomputable section

namespace Cert.Graph

open Idealize.ShloMosaic

/-! ## The insertion network -/

/-- What is left of `x` after it has passed the first `k` places of `t`, each keeping the greater value. -/
def carry (t : ℕ → EReal) (x : EReal) : ℕ → EReal
  | 0 => x
  | k + 1 => min (t k) (carry t x k)

/-- The places after `x` has passed all of them. -/
def ins (t : ℕ → EReal) (x : EReal) (k : ℕ) : EReal := max (t k) (carry t x k)

/-- The places after the first `n` values of `x`, from places that hold `⊥`. -/
def tops (x : ℕ → EReal) : ℕ → ℕ → EReal
  | 0 => fun _ => ⊥
  | n + 1 => ins (tops x n) (x n)

/-- How many of the first `n` values have the property. -/
def cnt (P : EReal → Prop) [DecidablePred P] (x : ℕ → EReal) (n : ℕ) : ℕ := ((Finset.range n).filter fun c => P (x c)).card

theorem cnt_succ (P : EReal → Prop) [DecidablePred P] (x : ℕ → EReal) (n : ℕ) :
    cnt P x (n + 1) = cnt P x n + if P (x n) then 1 else 0 := by
  unfold cnt
  rw [Finset.range_add_one, Finset.filter_insert]
  split_ifs with h
  · rw [Finset.card_insert_of_notMem (by simp)]
  · simp

theorem carry_iff (P : EReal → Prop) (hmin : ∀ a b, P (min a b) ↔ P a ∧ P b) (t : ℕ → EReal) (x : EReal) (k : ℕ) :
    P (carry t x k) ↔ P x ∧ ∀ i < k, P (t i) := by
  induction k with
  | zero => simp [carry]
  | succ k ih =>
    rw [carry, hmin, ih]
    constructor
    · rintro ⟨h1, h2, h3⟩
      refine ⟨h2, fun i hi => ?_⟩
      rcases Nat.lt_succ_iff_lt_or_eq.mp hi with h | h
      · exact h3 i h
      · exact h ▸ h1
    · rintro ⟨h1, h2⟩
      exact ⟨h2 k (Nat.lt_succ_self k), h1, fun i hi => h2 i (Nat.lt_succ_of_lt hi)⟩

/-- The place `k` has an upward-closed property exactly when more than `k` of the values read have it. -/
theorem tops_iff (P : EReal → Prop) [DecidablePred P] (hbot : ¬ P ⊥) (hmax : ∀ a b, P (max a b) ↔ P a ∨ P b)
    (hmin : ∀ a b, P (min a b) ↔ P a ∧ P b) (x : ℕ → EReal) (n k : ℕ) : P (tops x n k) ↔ k < cnt P x n := by
  induction n generalizing k with
  | zero => simp [tops, cnt, hbot]
  | succ n ih =>
    rw [tops, ins, hmax, carry_iff P hmin, ih, cnt_succ]
    constructor
    · rintro (h | ⟨h, h'⟩)
      · omega
      · rw [if_pos h]
        rcases Nat.eq_zero_or_pos k with h0 | h0
        · omega
        · have := (ih (k - 1)).mp (h' (k - 1) (by omega)); omega
    · intro h
      by_cases hk : k < cnt P x n
      · exact .inl hk
      · by_cases hp : P (x n)
        · rw [if_pos hp] at h
          exact .inr ⟨hp, fun i hi => (ih i).mpr (by omega)⟩
        · rw [if_neg hp] at h; omega

theorem carry_mem (t : ℕ → EReal) (x : EReal) (k : ℕ) : carry t x k = x ∨ ∃ i, carry t x k = t i := by
  induction k with
  | zero => exact .inl rfl
  | succ k ih =>
    rw [carry]
    rcases min_choice (t k) (carry t x k) with h | h
    · exact .inr ⟨k, h⟩
    · rw [h]; exact ih

/-- A place holds `⊥` or one of the values read. -/
theorem tops_mem (x : ℕ → EReal) (n k : ℕ) : tops x n k = ⊥ ∨ ∃ c < n, tops x n k = x c := by
  induction n generalizing k with
  | zero => exact .inl rfl
  | succ n ih =>
    have lift : ∀ i, tops x n i = ⊥ ∨ ∃ c < n + 1, tops x n i = x c := fun i =>
      (ih i).imp id fun ⟨c, h, e⟩ => ⟨c, by omega, e⟩
    rw [tops, ins]
    rcases max_choice (tops x n k) (carry (tops x n) (x n) k) with h | h
    · rw [h]; exact lift k
    · rw [h]
      rcases carry_mem (tops x n) (x n) k with h' | ⟨i, h'⟩
      · exact .inr ⟨n, by omega, h'⟩
      · rw [h']; exact lift i

/-- A value that is not `⊥` and is reached by at most `d` of the values read is in one of the first `d` places. -/
theorem exists_tops (x : ℕ → EReal) (n c d : ℕ) (hc : c < n) (hx : x c ≠ ⊥) (hd : cnt (fun y => x c ≤ y) x n ≤ d) :
    ∃ k < d, tops x n k = x c := by
  have hmem : c ∈ (Finset.range n).filter fun c' => x c ≤ x c' := by simp [hc]
  have h1 : 0 < cnt (fun y => x c ≤ y) x n := Finset.card_pos.mpr ⟨c, hmem⟩
  have h2 : cnt (fun y => x c < y) x n < cnt (fun y => x c ≤ y) x n := by
    apply Finset.card_lt_card
    refine ⟨fun c' h => ?_, fun h => ?_⟩
    · simp only [Finset.mem_filter] at h ⊢
      exact ⟨h.1, h.2.le⟩
    · have := h hmem
      simp at this
  refine ⟨cnt (fun y => x c ≤ y) x n - 1, by omega, le_antisymm ?_ ?_⟩
  · rw [← not_lt]
    intro h
    have := (tops_iff (fun y => x c < y) (by simp) (fun a b => lt_max_iff) (fun a b => lt_min_iff) x n _).mp h
    omega
  · exact (tops_iff (fun y => x c ≤ y) (by simpa using hx) (fun a b => le_max_iff) (fun a b => le_min_iff) x n _).mpr
      (by omega)

/-! ## The next smaller value -/

/-- The greatest of the candidates, then `k` times the greatest of those below the last one found. -/
def next {ι : Type} [Fintype ι] (cand : ι → EReal) : ℕ → EReal
  | 0 => Finset.univ.sup cand
  | k + 1 => Finset.univ.sup fun q => if cand q < next cand k then cand q else ⊥

/-- When the candidates include a strictly decreasing list and nothing between its values, the list is what is found. -/
theorem next_eq {ι : Type} [Fintype ι] (cand : ι → EReal) (w : ℕ → EReal) (n : ℕ) (hdec : ∀ k < n, w (k + 1) < w k)
    (hhit : ∀ k ≤ n, ∃ q, cand q = w k) (htop : ∀ q, cand q ≤ w 0)
    (hgap : ∀ q, ∀ k < n, cand q < w k → cand q ≤ w (k + 1)) (k : ℕ) (hk : k ≤ n) : next cand k = w k := by
  induction k with
  | zero =>
    refine le_antisymm (Finset.sup_le fun q _ => htop q) ?_
    obtain ⟨q, hq⟩ := hhit 0 hk
    rw [← hq]; exact Finset.le_sup (Finset.mem_univ q)
  | succ k ih =>
    rw [next, ih (by omega)]
    refine le_antisymm (Finset.sup_le fun q _ => ?_) ?_
    · split_ifs with h
      · exact hgap q k (by omega) h
      · exact bot_le
    · obtain ⟨q, hq⟩ := hhit (k + 1) hk
      have : (if cand q < w k then cand q else ⊥) = w (k + 1) := by rw [hq, if_pos (hdec k (by omega))]
      rw [← this]
      exact Finset.le_sup (f := fun q => if cand q < w k then cand q else ⊥) (Finset.mem_univ q)

/-! ## The row: columns in 128 lanes, and the threshold -/

/-- The values of lane `l`, the columns `128 c + l`; past the end of the row `⊥`. -/
def lane (e : Fin 10000 → EReal) (l c : ℕ) : EReal := if h : 128 * c + l < 10000 then e ⟨128 * c + l, h⟩ else ⊥

/-- The candidates of a row: the six greatest values of each of the 128 lanes. -/
def cand (e : Fin 10000 → EReal) (q : Fin 768) : EReal := tops (lane e (q.val % 128)) 79 (q.val / 128)

/-- The threshold of a row: the greatest candidate, then twenty times the next smaller one. -/
def thr (e : Fin 10000 → EReal) : EReal := next (cand e) 20

/-- A row `s` read in decreasing order through `π`, its first 22 values strictly decreasing, and no lane with more than
    six of the first 21. -/
structure Sorted (s : Fin 10000 → EReal) (π : Fin 10000 → Fin 10000) : Prop where
  surj : Function.Surjective π
  anti : ∀ a b, a ≤ b → s (π b) ≤ s (π a)
  strict : ∀ (a : ℕ) (h : a < 21), s (π ⟨a + 1, by omega⟩) < s (π ⟨a, by omega⟩)
  lanes : ∀ l < 128, ((Finset.range 79).filter fun c =>
    ∃ h : 128 * c + l < 10000, s (π ⟨20, by omega⟩) ≤ s ⟨128 * c + l, h⟩).card ≤ 6

/-- The columns that reach the value of rank 20 are the columns of rank up to 20. -/
theorem Sorted.mem_iff {s : Fin 10000 → EReal} {π : Fin 10000 → Fin 10000} (H : Sorted s π) (j : Fin 10000) :
    (∃ a : Fin 10000, a.val < 21 ∧ π a = j) ↔ s (π ⟨20, by omega⟩) ≤ s j := by
  constructor
  · rintro ⟨a, ha, rfl⟩
    exact H.anti _ _ (Fin.mk_le_mk.mpr (by omega))
  · intro h
    obtain ⟨a, rfl⟩ := H.surj j
    refine ⟨a, ?_, rfl⟩
    by_contra hn
    have h1 : s (π a) ≤ s (π ⟨21, by omega⟩) := H.anti _ _ (Fin.mk_le_mk.mpr (by omega))
    exact absurd (h.trans h1) (not_le.mpr (H.strict 20 (by omega)))

/-- The threshold of a row under a strictly increasing map that is never `⊥` is the image of the value of rank 20. -/
theorem Sorted.thr_eq {s : Fin 10000 → EReal} {π : Fin 10000 → Fin 10000} (H : Sorted s π) (f : EReal → EReal)
    (hf : StrictMono f) (hb : ∀ x, f x ≠ ⊥) : thr (fun j => f (s j)) = f (s (π ⟨20, by omega⟩)) := by
  set w : ℕ → EReal := fun k => if h : k < 10000 then f (s (π ⟨k, h⟩)) else ⊥ with hw
  have hwk : ∀ k (h : k < 10000), w k = f (s (π ⟨k, h⟩)) := fun k h => by rw [hw]; exact dif_pos h
  have hmem : ∀ q, cand (fun j => f (s j)) q = ⊥ ∨ ∃ a, cand (fun j => f (s j)) q = f (s (π a)) := by
    intro q
    rcases tops_mem (lane (fun j => f (s j)) (q.val % 128)) 79 (q.val / 128) with h | ⟨c, hc, h⟩
    · exact .inl h
    · by_cases hl : 128 * c + q.val % 128 < 10000
      · obtain ⟨a, ha⟩ := H.surj ⟨128 * c + q.val % 128, hl⟩
        refine .inr ⟨a, ?_⟩
        rw [cand, h, lane, dif_pos hl, ha]
      · exact .inl (by rw [cand, h, lane, dif_neg hl])
  have key := next_eq (cand fun j => f (s j)) w 20 ?_ ?_ ?_ ?_ 20 le_rfl
  · rw [thr, key, hwk 20 (by omega)]
  · intro k hk
    rw [hwk k (by omega), hwk (k + 1) (by omega)]
    exact hf (H.strict k (by omega))
  · intro k hk
    rw [hwk k (by omega)]
    obtain ⟨j, hj⟩ : ∃ j, π ⟨k, by omega⟩ = j := ⟨_, rfl⟩
    have hjc : 128 * (j.val / 128) + j.val % 128 = j.val := Nat.div_add_mod _ _
    have hlane : lane (fun j => f (s j)) (j.val % 128) (j.val / 128) = f (s j) := by
      rw [lane, dif_pos (by omega)]
      congr 2; exact Fin.ext hjc
    have h20 : s (π ⟨20, by omega⟩) ≤ s j := by
      rw [← hj]; exact H.anti _ _ (Fin.mk_le_mk.mpr hk)
    obtain ⟨d, hd, hval⟩ := exists_tops (lane (fun j => f (s j)) (j.val % 128)) 79 (j.val / 128) 6
      (by have := j.isLt; omega) (by rw [hlane]; exact hb _) (by
        refine le_trans (Finset.card_le_card fun c hc => ?_) (H.lanes (j.val % 128) (Nat.mod_lt _ (by omega)))
        simp only [Finset.mem_filter, hlane] at hc ⊢
        refine ⟨hc.1, ?_⟩
        by_cases h : 128 * c + j.val % 128 < 10000
        · refine ⟨h, h20.trans ?_⟩
          have h2 := hc.2
          rw [lane, dif_pos h] at h2
          exact hf.le_iff_le.mp h2
        · have h2 := hc.2
          rw [lane, dif_neg h] at h2
          exact absurd (le_bot_iff.mp h2) (hb _))
    have hlt : j.val % 128 < 128 := Nat.mod_lt _ (by omega)
    refine ⟨⟨128 * d + j.val % 128, by omega⟩, ?_⟩
    rw [cand]
    have e1 : (128 * d + j.val % 128) % 128 = j.val % 128 := by omega
    have e2 : (128 * d + j.val % 128) / 128 = d := by omega
    simp only [e1, e2]
    rw [hval, hlane, hj]
  · intro q
    rw [hwk 0 (by omega)]
    rcases hmem q with h | ⟨a, h⟩
    · rw [h]; exact bot_le
    · rw [h]; exact hf.monotone (H.anti _ _ (Fin.mk_le_mk.mpr (by omega)))
  · intro q k hk hlt
    rw [hwk k (by omega)] at hlt
    rw [hwk (k + 1) (by omega)]
    rcases hmem q with h | ⟨a, h⟩
    · rw [h]; exact bot_le
    · rw [h] at hlt ⊢
      refine hf.monotone (H.anti _ _ (Fin.mk_le_mk.mpr ?_))
      by_contra hn
      exact absurd (hf.monotone (H.anti a ⟨k, by omega⟩ (Fin.mk_le_mk.mpr (by omega)))) (not_le.mpr hlt)

/-! ## The activation -/

/-- The background weight `exp (-6)`. -/
def bg : EReal := ((Real.exp (-6) : ℝ) : EReal)

/-- `elu x`. -/
def elu (x : EReal) : EReal := if 0 < x then x else Ideal.exp x - 1

/-- The activation less the background: `elu (6 s - 6) + (1 - exp (-6))`. -/
def act (s : EReal) : EReal := elu (6 * s - 6) + (1 - bg)

/-- The activation on the reals. -/
def actR (r : ℝ) : ℝ := (if 0 < 6 * r - 6 then 6 * r - 6 else Real.exp (6 * r - 6) - 1) + (1 - Real.exp (-6))

theorem exp_bot : Ideal.exp ⊥ = 0 := rfl
theorem exp_top : Ideal.exp ⊤ = ⊤ := rfl
theorem exp_coe (r : ℝ) : Ideal.exp (r : EReal) = ((Real.exp r : ℝ) : EReal) := rfl

theorem act_coe (r : ℝ) : act (r : EReal) = ((actR r : ℝ) : EReal) := by
  have h6 : (6 : EReal) * (r : EReal) - 6 = ((6 * r - 6 : ℝ) : EReal) := by norm_cast
  rw [act, elu, h6, exp_coe, bg, actR]
  by_cases h : 0 < 6 * r - 6
  · rw [if_pos h, if_pos (by exact_mod_cast h)]; norm_cast
  · rw [if_neg h, if_neg (by exact_mod_cast h)]; norm_cast

theorem act_bot : act ⊥ = ((-Real.exp (-6) : ℝ) : EReal) := by
  have h6 : (6 : EReal) * ⊥ - 6 = ⊥ := by
    rw [show (6 : EReal) = ((6 : ℝ) : EReal) from by norm_cast, EReal.coe_mul_bot_of_pos (by norm_num)]; rfl
  rw [act, elu, h6, exp_bot, if_neg (by simp), bg]
  have : (0 : EReal) - 1 + (1 - ((Real.exp (-6) : ℝ) : EReal)) = ((0 - 1 + (1 - Real.exp (-6)) : ℝ) : EReal) := by
    push_cast; rfl
  rw [this]; congr 1; ring

theorem act_top : act ⊤ = ⊤ := by
  have h6 : (6 : EReal) * ⊤ - 6 = ⊤ := by
    rw [show (6 : EReal) = ((6 : ℝ) : EReal) from by norm_cast, EReal.coe_mul_top_of_pos (by norm_num)]; rfl
  rw [act, elu, h6, if_pos (by simp), bg]
  rw [show (1 : EReal) - ((Real.exp (-6) : ℝ) : EReal) = ((1 - Real.exp (-6) : ℝ) : EReal) from by norm_cast]
  exact EReal.top_add_coe _

theorem actR_mono : StrictMono actR := by
  intro a b h
  unfold actR
  have hexp : Real.exp (6 * a - 6) < Real.exp (6 * b - 6) := Real.exp_lt_exp.mpr (by linarith)
  split_ifs with h1 h2 h2
  · linarith
  · linarith
  · have : Real.exp (6 * a - 6) ≤ 1 := Real.exp_le_one_iff.mpr (by linarith)
    linarith
  · linarith

theorem actR_gt (r : ℝ) : -Real.exp (-6) < actR r := by
  unfold actR
  have := Real.exp_pos (6 * r - 6)
  split_ifs with h <;> linarith

theorem act_ne_bot (x : EReal) : act x ≠ ⊥ := by
  induction x with
  | bot => rw [act_bot]; exact EReal.coe_ne_bot _
  | coe r => rw [act_coe]; exact EReal.coe_ne_bot _
  | top => rw [act_top]; exact top_ne_bot

/-- The activation is strictly increasing on the extended reals. -/
theorem act_mono : StrictMono act := by
  intro a b h
  induction a with
  | bot =>
    induction b with
    | bot => exact absurd h (lt_irrefl _)
    | coe r => rw [act_bot, act_coe]; exact_mod_cast actR_gt r
    | top => rw [act_bot, act_top]; exact EReal.coe_lt_top _
  | coe q =>
    induction b with
    | bot => exact absurd h not_lt_bot
    | coe r => rw [act_coe, act_coe]; exact_mod_cast actR_mono (by exact_mod_cast h)
    | top => rw [act_coe, act_top]; exact EReal.coe_lt_top _
  | top => exact absurd h not_top_lt

/-- The activation of an entry that is kept is the background plus `act`. -/
theorem elu_kept (s : EReal) : elu ((s * 1) * 6 - 6) + 1 = bg + act s := by
  rw [mul_one, mul_comm s 6, act, add_left_comm, bg]
  congr 1
  norm_cast
  ring

/-- The activation of an entry that is not kept is the background. -/
theorem elu_dropped (s : EReal) : elu ((s * 0) * 6 - 6) + 1 = bg + 0 := by
  rw [mul_zero, zero_mul, add_zero, elu, bg]
  have h : (0 : EReal) - 6 = ((-6 : ℝ) : EReal) := by rw [zero_sub]; rfl
  rw [h, if_neg (by simp), exp_coe]
  norm_cast; ring

/-! ## The algebra of the degrees -/

theorem half_pos : (0 : EReal) ≤ ((2⁻¹ : ℝ) : EReal) := by
  exact_mod_cast (by norm_num : (0 : ℝ) ≤ 2⁻¹)

theorem half_add (x y : EReal) : ((2⁻¹ : ℝ) : EReal) * (x + y) = ((2⁻¹ : ℝ) : EReal) * x + ((2⁻¹ : ℝ) : EReal) * y :=
  EReal.left_distrib_of_nonneg_of_ne_top half_pos (EReal.coe_ne_top _) x y

theorem half_sum {ι : Type} (s : Finset ι) (f : ι → EReal) :
    ((2⁻¹ : ℝ) : EReal) * ∑ i ∈ s, f i = ∑ i ∈ s, ((2⁻¹ : ℝ) : EReal) * f i := by
  classical
  induction s using Finset.induction_on with
  | empty => simp
  | insert a s ha ih => rw [Finset.sum_insert ha, Finset.sum_insert ha, half_add, ih]

/-- Half of two activations with their backgrounds is the background plus half of the two activations. -/
theorem half_pair (x y : EReal) : ((bg + x) + (bg + y)) * ((2⁻¹ : ℝ) : EReal) = bg + ((2⁻¹ : ℝ) : EReal) * (x + y) := by
  rw [mul_comm, add_add_add_comm, half_add, bg]
  congr 1
  norm_cast; ring

/-- The background summed over a row. -/
theorem bg_sum : ∑ _j : Fin 10000, bg = bg * 10000 := by
  rw [Finset.sum_const, Finset.card_univ, Fintype.card_fin, bg]
  rw [← EReal.coe_nsmul, nsmul_eq_mul, mul_comm, EReal.coe_mul]
  rfl

/-- The row sums of the symmetrized matrix, from the row sums and the column sums of the masked one. -/
theorem degree (em : Fin 10000 → Fin 10000 → EReal) (i : Fin 10000) :
    ∑ j, (bg + ((2⁻¹ : ℝ) : EReal) * (em i j + em j i))
      = bg * 10000 + ((2⁻¹ : ℝ) : EReal) * ((∑ j, em i j) + ∑ j, em j i) := by
  rw [Finset.sum_add_distrib, bg_sum, ← half_sum, Finset.sum_add_distrib]

/-- One entry times the number of the two thresholds it reaches is the sum of the two masked entries. -/
theorem twice (e : EReal) (p q : Prop) [Decidable p] [Decidable q] :
    (((2⁻¹ : ℝ) : EReal) * e) * ((if p then 1 else 0) + (if q then 1 else 0))
      = ((2⁻¹ : ℝ) : EReal) * ((if p then e else 0) + (if q then e else 0)) := by
  rw [EReal.left_distrib_of_nonneg (by split_ifs <;> simp) (by split_ifs <;> simp), half_add]
  congr 1 <;> split_ifs <;> simp

/-! ## The graph of the activations -/

/-- The activations of the rows `z`: that of the two rows' scalar product. -/
def edge (z : Fin 10000 → Fin 512 → EReal) (i j : Fin 10000) : EReal := act (∑ k, z i k * z j k)

/-- The activations are symmetric. -/
theorem edge_comm (z : Fin 10000 → Fin 512 → EReal) (i j : Fin 10000) : edge z i j = edge z j i := by
  unfold edge
  exact congrArg act (Finset.sum_congr rfl fun k _ => mul_comm _ _)

/-- The activations that reach their row's threshold, `0` in place of the others. -/
def kept (e : Fin 10000 → Fin 10000 → EReal) (i j : Fin 10000) : EReal := if thr (e i) ≤ e i j then e i j else 0

/-- The sum of a row of the kept activations. -/
@[irreducible] def rowSum (e : Fin 10000 → Fin 10000 → EReal) (i : Fin 10000) : EReal := ∑ j, kept e i j

/-- The sum of a column of the kept activations. -/
@[irreducible] def colSum (e : Fin 10000 → Fin 10000 → EReal) (j : Fin 10000) : EReal := ∑ i, kept e i j

/-! ## The normalized rows -/

/-- A row times a matrix of weights, plus the bias. -/
def dense (x : Fin 512 → EReal) (w : Fin 512 → Fin 512 → EReal) (b : Fin 512 → EReal) (k : Fin 512) : EReal :=
  (∑ l, x l * w l k) + b k

/-- The positive part of a row. -/
def relu (x : Fin 512 → EReal) (k : Fin 512) : EReal := max (x k) 0

/-- A row divided by its length, or by a small constant when the length is below it. -/
def unitRow (h : Fin 512 → EReal) (k : Fin 512) : EReal :=
  Ideal.div (h k) (max (Ideal.sqrt (∑ l, h l * h l)) (Ideal.ofBits .f32 0x2B8CBCCC#32))

/-- The two layers of the perceptron on a row, normalized. -/
def embed (x : Fin 512 → EReal) (w₀ : Fin 512 → Fin 512 → EReal) (b₀ : Fin 512 → EReal)
    (w₁ : Fin 512 → Fin 512 → EReal) (b₁ : Fin 512 → EReal) : Fin 512 → EReal :=
  unitRow (dense (relu (dense x w₀ b₀)) w₁ b₁)

/-! ## The normalized adjacency -/

/-- The reciprocal root of the degree of a node whose kept activations sum to `r` along its row and to `c` along its
    column. -/
def scale (r c : EReal) : EReal :=
  Ideal.div 1 (Ideal.sqrt (bg * 10000 + ((2⁻¹ : ℝ) : EReal) * (r + c)) + Ideal.ofBits .f32 0x2EDBE6FF#32)

/-- The edge between two nodes with activation `e` and thresholds `p` and `q`. -/
def halves (e p q : EReal) : EReal :=
  bg + (((2⁻¹ : ℝ) : EReal) * e) * ((if p ≤ e then 1 else 0) + (if q ≤ e then 1 else 0))

/-- The normalized adjacency of the graph on the normalized rows `z`. -/
def adjacency (z : Fin 10000 → Fin 512 → EReal) (i j : Fin 10000) : EReal :=
  (scale (rowSum (edge z) i) (colSum (edge z) i) * scale (rowSum (edge z) j) (colSum (edge z) j))
    * halves (edge z i j) (thr (edge z i)) (thr (edge z j))

end Cert.Graph

end
-- ==== Proof.Block.lean ====
/-
  What the second region's payloads compute at an index, over the extended reals: the activations of a block, the six
  running maxima of every lane, the candidates, the threshold, the masked block and its sums.
-/
module

public import proofs.«01_k».proof.Proof.Maths
public import proofs.«01_k».proof.Proof.Gen.KernelIdeal.Skeleton
public import Idealize.ShloMosaic.Lib.Pipeline.Value
public import Idealize.ShloMosaic.Lib.Exec.Context
public import Idealize.ShloMosaic.Lib.ValueIdx

@[expose] public section

noncomputable section

namespace Cert.KernelIdeal.Value

open Idealize.ShloMosaic Idealize.ShloMosaic.TcCoe Idealize.ShloMosaic.ValueIdx
open Cert.KernelIdeal Cert.KernelIdeal.Gen Cert.Graph

/-! ## Literals -/

theorem lit_negInf : Ideal.ofBits .f32 0xFF800000#32 = ⊥ := by simp [Ideal.ofBits, Ideal.ieee]
theorem lit_six : Ideal.ofBits .f32 0x40C00000#32 = 6 := by
  have h : ((6 : ℝ) : EReal) = 6 := rfl
  rw [← h]
  simp [Ideal.ofBits, Ideal.ieee, -EReal.coe_mul]; norm_num
theorem lit_one : Ideal.ofBits .f32 0x3F800000#32 = 1 := by
  simp [Ideal.ofBits, Ideal.ieee, -EReal.coe_mul]; norm_num
theorem lit_negSix : Ideal.ofBits .f32 0xC0C00000#32 = ((-6 : ℝ) : EReal) := by
  simp [Ideal.ofBits, Ideal.ieee, -EReal.coe_mul]; norm_num

/-! ## A comparison followed by a choice -/

theorem sel_lt (x y a b : EReal) :
    Scalar.select (FloatOps.cmpf (F := Ideal) (φ := .f32) .olt x y) a b = if x < y then a else b := by
  show (if BitVec.ofBool (decide (x < y)) = 1 then a else b) = _
  by_cases h : x < y <;> simp [h]

theorem sel_ge (x y a b : EReal) :
    Scalar.select (FloatOps.cmpf (F := Ideal) (φ := .f32) .oge x y) a b = if y ≤ x then a else b := by
  show (if BitVec.ofBool (decide (y ≤ x)) = 1 then a else b) = _
  by_cases h : y ≤ x <;> simp [h]

theorem sel_gt (x y a b : EReal) :
    Scalar.select (FloatOps.cmpf (F := Ideal) (φ := .f32) .ogt x y) a b = if y < x then a else b := by
  show (if BitVec.ofBool (decide (y < x)) = 1 then a else b) = _
  by_cases h : y < x <;> simp [h]

/-- A row of a block. -/
def row (E : FVec Ideal S80x10000 .f32) (p : Fin 80) (j : Fin 10000) : EReal := E (ix2 p j)

/-! ## The running maxima -/

/-- Six blocks hold the first six of `t` at `j`. -/
def Six (a0 a1 a2 a3 a4 a5 : FVec Ideal S80x128 .f32) (j : S80x128.Idx) (t : ℕ → EReal) : Prop :=
  a0 j = t 0 ∧ a1 j = t 1 ∧ a2 j = t 2 ∧ a3 j = t 3 ∧ a4 j = t 4 ∧ a5 j = t 5

/-- Before the first trip the places hold `⊥`. -/
theorem six_init (j : S80x128.Idx) (x : ℕ → EReal) :
    Six (k1_pay9 (F := Ideal)) k1_pay9 k1_pay9 k1_pay9 k1_pay9 k1_pay9 j (tops x 0) := by
  have h : k1_pay9 (F := Ideal) j = ⊥ := lit_negInf
  exact ⟨h, h, h, h, h, h⟩

/-- A trip inserts the loaded value. -/
theorem six_step (a0 a1 a2 a3 a4 a5 : FVec Ideal S80x128 .f32) (L : Vec Ideal S80x128 .f32) (j : S80x128.Idx)
    (t : ℕ → EReal) (h : Six a0 a1 a2 a3 a4 a5 j t) :
    Six (k1_pay11 a0 L) (k1_pay13 a0 a1 L) (k1_pay15 a0 a1 a2 L) (k1_pay17 a0 a1 a2 a3 L) (k1_pay19 a0 a1 a2 a3 a4 L)
      (k1_pay20 a0 a1 a2 a3 a4 a5 L) j (ins t (L j)) := by
  obtain ⟨h0, h1, h2, h3, h4, h5⟩ := h
  simp only [Six, k1_pay11, k1_pay13, k1_pay15, k1_pay17, k1_pay19, k1_pay20, k1_pay12, k1_pay14, k1_pay16, k1_pay18,
    k1_pay10, shapeCast_self, maximumf_apply, minimumf_apply, ins, carry, h0, h1, h2, h3, h4, h5, and_self]

/-- The last columns, sixteen wide, padded with `⊥`. -/
theorem tail_apply (v : Vec Ideal S80x16 .f32) (p : Fin 80) (l : Fin 128) :
    k1_pay21 v (ix2 p l) = if h : l.val < 16 then v (ix2 p ⟨l.val, h⟩) else ⊥ := by
  unfold k1_pay21
  rw [shapeCast_self]
  split_ifs with h
  · exact concatenate_apply_piece (t := S80x128) 1 _ _ _ 0 (by simp) S80x16 v rfl rfl 0 (by simp)
      (ix2 p ⟨l.val, h⟩) (fun b hb => by fin_cases b <;> first | rfl | exact absurd rfl hb) (by show 0 + l.val = l.val; omega)
  · refine (concatenate_apply_piece (t := S80x128) 1
      [⟨S80x16, v⟩, ⟨S80x112, broadcast S80x112 (Scalar.ofBits (F := Ideal) .f32 0xFF800000#32)⟩]
      concatenates_S80x16_S80x112_S80x128_d1 (ix2 p l) 1 (by simp) S80x112 _ rfl rfl 16 (by simp)
      (ix2 p ⟨l.val - 16, by omega⟩) (fun b hb => by fin_cases b <;> first | rfl | exact absurd rfl hb)
      (by show 16 + (l.val - 16) = l.val; omega)).trans lit_negInf

/-- The last insertion, after the loop. -/
theorem six_tail (a0 a1 a2 a3 a4 a5 : FVec Ideal S80x128 .f32) (v : Vec Ideal S80x16 .f32) (j : S80x128.Idx)
    (t : ℕ → EReal) (h : Six a0 a1 a2 a3 a4 a5 j t) :
    Six (k1_pay22 a0 v) (k1_pay24 a0 a1 v) (k1_pay26 a0 a1 a2 v) (k1_pay28 a0 a1 a2 a3 v) (k1_pay30 a0 a1 a2 a3 a4 v)
      (maximumf a5 (k1_pay31 a0 a1 a2 a3 a4 v)) j (ins t (k1_pay21 v j)) := by
  obtain ⟨h0, h1, h2, h3, h4, h5⟩ := h
  simp only [Six, k1_pay22, k1_pay24, k1_pay26, k1_pay28, k1_pay30, k1_pay31, k1_pay23, k1_pay25, k1_pay27, k1_pay29,
    maximumf_apply, minimumf_apply, ins, carry, h0, h1, h2, h3, h4, h5, and_self]

/-! ## The candidates -/

/-- The candidates of a block: six lanes side by side. -/
theorem cand_apply (a5 b0 b1 b2 b3 b4 b36 : FVec Ideal S80x128 .f32) (T : Fin 80 → ℕ → ℕ → EReal)
    (h : ∀ p (l : Fin 128), Six b0 b1 b2 b3 b4 (maximumf a5 b36) (ix2 p l) (T p l.val)) (p : Fin 80) (q : Fin 768) :
    k1_pay1 a5 b0 b1 b2 b3 b4 b36 (ix2 p q) = T p (q.val % 128) (q.val / 128) := by
  obtain ⟨h0, h1, h2, h3, h4, h5⟩ := h p ⟨q.val % 128, Nat.mod_lt _ (by norm_num)⟩
  have hb : ∀ b : Fin 2, (Fin.cast rfl b : Fin 2) ≠ 1 → ((ix2 p (⟨q.val % 128, Nat.mod_lt _ (by norm_num)⟩ : Fin 128)) b).val = ((ix2 p q) (Fin.cast rfl b)).val :=
    fun b hb => by fin_cases b <;> first | rfl | exact absurd rfl hb
  have hq : q.val / 128 = 0 ∨ q.val / 128 = 1 ∨ q.val / 128 = 2 ∨ q.val / 128 = 3 ∨ q.val / 128 = 4 ∨ q.val / 128 = 5 := by
    omega
  unfold k1_pay1
  rcases hq with e | e | e | e | e | e <;> rw [e]
  · rw [← h0]
    exact concatenate_apply_piece (t := S80x768) 1 _ _ _ 0 (by simp) S80x128 _ rfl rfl 0 (by simp) _ hb
      (by show 0 + q.val % 128 = q.val; omega)
  · rw [← h1]
    exact concatenate_apply_piece (t := S80x768) 1 _ _ _ 1 (by simp) S80x128 _ rfl rfl 128 (by simp) _ hb
      (by show 128 + q.val % 128 = q.val; omega)
  · rw [← h2]
    exact concatenate_apply_piece (t := S80x768) 1 _ _ _ 2 (by simp) S80x128 _ rfl rfl 256 (by simp) _ hb
      (by show 256 + q.val % 128 = q.val; omega)
  · rw [← h3]
    exact concatenate_apply_piece (t := S80x768) 1 _ _ _ 3 (by simp) S80x128 _ rfl rfl 384 (by simp) _ hb
      (by show 384 + q.val % 128 = q.val; omega)
  · rw [← h4]
    exact concatenate_apply_piece (t := S80x768) 1 _ _ _ 4 (by simp) S80x128 _ rfl rfl 512 (by simp) _ hb
      (by show 512 + q.val % 128 = q.val; omega)
  · rw [← h5]
    exact concatenate_apply_piece (t := S80x768) 1 _ _ _ 5 (by simp) S80x128 _ rfl rfl 640 (by simp) _ hb
      (by show 640 + q.val % 128 = q.val; omega)

/-! ## The threshold -/

/-- A row's maximum: the supremum over the row. -/
theorem rowMax_apply (x : FVec Ideal S80x768 .f32) (p : Fin 80) :
    shapeCast S80x1 (multiReduction .maximumf [1] S80 x 0xFF800000#32 reduces_S80x768_S80 (.inl rfl) rfl)
      shapeCasts_S80_S80x1 (ix2 p 0) = Finset.univ.sup fun q : Fin 768 => x (ix2 p q) := by
  rw [shapeCast_apply _ _ _ (ix1 p) (by rw [Shape.rowMajor_val_one, Shape.rowMajor_val_two]; show p.val = p.val * 1 + 0; omega)]
  refine (Ideal.multiReduction_maximumf_single _ _ _ _ _ _).trans ?_
  rw [show FloatOps.ofBits (F := Ideal) .f32 0xFF800000#32 = (⊥ : EReal) from lit_negInf]
  exact Finset.fold_congr fun q _ => congrArg x (funext fun a => by fin_cases a <;> rfl)

theorem max_apply (a5 b0 b1 b2 b3 b4 b36 : FVec Ideal S80x128 .f32) (e : Fin 10000 → EReal) (p : Fin 80)
    (h : ∀ q, k1_pay1 a5 b0 b1 b2 b3 b4 b36 (ix2 p q) = cand e q) :
    k1_pay2 a5 b0 b1 b2 b3 b4 b36 (ix2 p 0) = next (cand e) 0 := by
  unfold k1_pay2
  rw [rowMax_apply, next]
  exact Finset.sup_congr rfl fun q _ => h q

theorem next_apply (a5 b0 b1 b2 b3 b4 b36 : FVec Ideal S80x128 .f32) (e : Fin 10000 → EReal) (p : Fin 80)
    (h : ∀ q, k1_pay1 a5 b0 b1 b2 b3 b4 b36 (ix2 p q) = cand e q) (t : FVec Ideal S80x1 .f32) (k : ℕ)
    (ht : t (ix2 p 0) = next (cand e) k) :
    k1_pay3 a5 b0 b1 b2 b3 b4 b36 t (ix2 p 0) = next (cand e) (k + 1) := by
  unfold k1_pay3
  rw [rowMax_apply, next]
  refine Finset.sup_congr rfl fun q _ => ?_
  rw [select_apply, cmpf_apply, broadcast_apply, broadcastTo_apply t broadcasts_S80x1_S80x768 (ix2 p q) (ix2 p 0) (fun a => by fin_cases a <;> rfl), h, ht]
  rw [show (Scalar.ofBits .f32 0xFF800000#32 : Ideal .f32) = (⊥ : EReal) from lit_negInf]
  exact sel_lt _ _ _ _

/-- The loop's last value: the threshold of the row. -/
theorem thr_apply (a5 b0 b1 b2 b3 b4 b36 : FVec Ideal S80x128 .f32) (e : Fin 10000 → EReal) (p : Fin 80)
    (h : ∀ q, k1_pay1 a5 b0 b1 b2 b3 b4 b36 (ix2 p q) = cand e q) :
    Scf.fold (n := k1_t2_loop.trips) (fun _ a => k1_pay3 a5 b0 b1 b2 b3 b4 b36 a) (k1_pay2 a5 b0 b1 b2 b3 b4 b36) (ix2 p 0) = thr e := by
  rw [Scf.fold_eq, List.foldl_const, List.length_finRange, thr, show k1_t2_loop.trips = 20 from by decide]
  have key : ∀ n : ℕ, (k1_pay3 a5 b0 b1 b2 b3 b4 b36)^[n] (k1_pay2 a5 b0 b1 b2 b3 b4 b36) (ix2 p 0) = next (cand e) n := by
    intro n
    induction n with
    | zero => exact max_apply a5 b0 b1 b2 b3 b4 b36 e p h
    | succ n ih =>
      rw [Function.iterate_succ_apply']
      exact next_apply a5 b0 b1 b2 b3 b4 b36 e p h _ n ih
  exact key 20

/-! ## The masked block and its sums -/

/-- The masked activation: the activation where it reaches the row's threshold. -/
theorem masked_apply (t : FVec Ideal S80x1 .f32) (E : Vec Ideal S80x10000 .f32) (p : Fin 80) (j : Fin 10000) :
    k1_pay4 t E (ix2 p j) = if t (ix2 p 0) ≤ row E p j then row E p j else 0 := by
  unfold k1_pay4
  rw [shapeCast_self, select_apply, cmpf_apply, broadcast_apply, broadcastTo_apply t broadcasts_S80x1_S80x10000 (ix2 p j) (ix2 p 0) (fun a => by fin_cases a <;> rfl)]
  rw [show (Scalar.ofBits .f32 0x00000000#32 : Ideal .f32) = (0 : EReal) from Ideal.ofBits_zero_f32]
  exact sel_ge _ _ _ _

/-- The row sums of the masked block. -/
theorem rowSum_apply (t : FVec Ideal S80x1 .f32) (E : Vec Ideal S80x10000 .f32) (p : Fin 80) :
    k1_pay5 t E (ix2 p 0) = ∑ j : Fin 10000, if t (ix2 p 0) ≤ row E p j then row E p j else 0 := by
  unfold k1_pay5
  rw [shapeCast_apply _ _ _ (ix1 p) (by rw [Shape.rowMajor_val_one, Shape.rowMajor_val_two]; show p.val = p.val * 1 + 0; omega)]
  refine (Ideal.multiReduction_add_single _ _ _ _ _ _).trans ?_
  refine Finset.sum_congr rfl fun j _ => ?_
  exact (congrArg (k1_pay4 t E) (funext fun a => by fin_cases a <;> rfl)).trans (masked_apply t E p j)

/-- The column sums of the masked block, added to what the block of sums held. -/
theorem colSum_apply (t : FVec Ideal S80x1 .f32) (E : Vec Ideal S80x10000 .f32) (s : Vec Ideal S1x10000 .f32) (j : Fin 10000) :
    k1_pay7 t E s (ix2 0 j) = s (ix2 0 j) + ∑ p : Fin 80, if t (ix2 p 0) ≤ row E p j then row E p j else 0 := by
  unfold k1_pay7
  rw [shapeCast_self, addf_apply]
  refine congrArg (s (ix2 0 j) + ·) ?_
  rw [shapeCast_apply _ _ _ (ix1 j) (by rw [Shape.rowMajor_val_one, Shape.rowMajor_val_two]; show j.val = 0 * 10000 + j.val; omega)]
  refine (Ideal.multiReduction_add_single _ _ _ _ _ _).trans ?_
  refine Finset.sum_congr rfl fun p _ => ?_
  exact (congrArg (k1_pay4 t E) (funext fun a => by fin_cases a <;> rfl)).trans (masked_apply t E p j)

/-- The block of sums starts at zero. -/
theorem zero_apply (j : Fin 10000) : (k1_pay6 (F := Ideal)) (ix2 0 j) = 0 := Ideal.ofBits_zero_f32

/-! ## The activations of a block -/

/-- An activation: the activation of the rows' scalar product. -/
theorem act_apply (x : Vec Ideal S80x512 .f32) (y : Vec Ideal S10000x512 .f32) (p : Fin 80) (j : Fin 10000) :
    k1_pay8 x y (ix2 p j) = act (∑ k : Fin 512, x (ix2 p k) * y (ix2 j k)) := by
  unfold k1_pay8
  rw [shapeCast_self, shapeCast_self]
  have hm : matmul (F := Ideal) (φ₁ := .f32) (φ₂ := .f32) dot_S80x512_S10000x512_S80x10000_1_1_0_0_n_n none x y (constant (F := Ideal) S80x10000 .f32 0x00000000#32) (ix2 p j)
      = ∑ k : Fin 512, x (ix2 p k) * y (ix2 j k) := by
    show FloatOps.matmul _ _ _ _ _ _ = _
    rw [Ideal.matmul_constant_zero_apply, ← Equiv.sum_comp (contrEquiv1 dot_S80x512_S10000x512_S80x10000_1_1_0_0_n_n 512 rfl rfl).symm]
    refine Finset.sum_congr rfl fun k _ => ?_
    congr 1
    · exact congrArg x (funext fun a => by fin_cases a <;> rfl)
    · exact congrArg y (funext fun a => by fin_cases a <;> rfl)
  rw [addf_apply, select_apply, cmpf_apply, subf_apply _ _ (ix2 p j), mulf_apply,
    show ∀ (v w : FVec Ideal S80x10000 .f32), subf (exp v) w (ix2 p j) = Ideal.exp (v (ix2 p j)) - w (ix2 p j) from fun _ _ => rfl,
    subf_apply, mulf_apply, hm]
  generalize (∑ k : Fin 512, x (ix2 p k) * y (ix2 j k)) = s
  refine (congrArg (· + _) (sel_gt _ _ _ _)).trans ?_
  show (if Ideal.ofBits .f32 0x00000000#32 < Ideal.ofBits .f32 0x40C00000#32 * s - Ideal.ofBits .f32 0x40C00000#32
      then Ideal.ofBits .f32 0x40C00000#32 * s - Ideal.ofBits .f32 0x40C00000#32
      else Ideal.exp (Ideal.ofBits .f32 0x40C00000#32 * s - Ideal.ofBits .f32 0x40C00000#32) - Ideal.ofBits .f32 0x3F800000#32)
      + (Ideal.ofBits .f32 0x3F800000#32 - Ideal.exp (Ideal.ofBits .f32 0xC0C00000#32)) = act s
  rw [lit_six, lit_one, lit_negSix, Ideal.ofBits_zero_f32, exp_coe]
  rfl

end Cert.KernelIdeal.Value

end
-- ==== Proof.PassA.lean ====
/-
  What a point of the second region leaves in its output blocks, read off the run: the activations, the row thresholds,
  the row sums of the masked block, and the running column sums.
-/
module

public import proofs.«01_k».proof.Proof.Block
public import proofs.«01_k».proof.Proof.Gen.KernelIdeal.Frame
public import Idealize.ShloMosaic.Lib.Tactic

@[expose] public section

noncomputable section

open Idealize.ShloMosaic Idealize.ShloMosaic.TcCoe Idealize.ShloMosaic.ValueIdx Idealize.SL.Sem
open Idealize.ShloMosaic.Pipeline (Dat)

namespace Cert.KernelIdeal.Value

open Cert.KernelIdeal Cert.KernelIdeal.Gen Cert.Graph

theorem hz : (![0, 0] : Fin 2 → Nat) = fun _ => 0 := funext fun a => by fin_cases a <;> rfl

variable (c : Dev nD) (i : grid1.Coords) (a1 : Memref sig .tc .vmem S80x512 .f32) (h1 : a1.IsWhole) (a2 : Memref sig .tc .vmem S10000x512 .f32) (h2 : a2.IsWhole) (a3 : Memref sig .tc .vmem S80x10000 .f32) (h3 : a3.IsWhole) (a4 : Memref sig .tc .vmem S80x1 .f32) (h4 : a4.IsWhole) (a5 : Memref sig .tc .vmem S80x1 .f32) (h5 : a5.IsWhole) (a6 : Memref sig .tc .vmem S1x10000 .f32) (h6 : a6.IsWhole)

/-! ## The loop over the lane chunks -/

/-- The carried blocks after `n` trips, from the six blocks of `⊥`. -/
abbrev st (X : BufTy.Contents (Elt Ideal) a3.view.ty) (n : ℕ) :=
  st_k1_t1 (F := Ideal) Variants.none c none i a1 h1 a2 h2 a3 h3 a4 h4 a5 h5 a6 h6 X (k1_pay9, k1_pay9, k1_pay9, k1_pay9, k1_pay9, k1_pay9) n

/-- After `n` trips the carried blocks hold, at every row and lane, the six greatest of the lane's first `n` values. -/
theorem st_apply (X : BufTy.Contents (Elt Ideal) a3.view.ty) (E : Vec Ideal S80x10000 .f32) (hX : a3.view.read (Elt Ideal) X = E)
    (p : Fin 80) (l : Fin 128) (n : ℕ) (hn : n ≤ 78) :
    Six (st c i a1 h1 a2 h2 a3 h3 a4 h4 a5 h5 a6 h6 X n).1 (st c i a1 h1 a2 h2 a3 h3 a4 h4 a5 h5 a6 h6 X n).2.1
      (st c i a1 h1 a2 h2 a3 h3 a4 h4 a5 h5 a6 h6 X n).2.2.1 (st c i a1 h1 a2 h2 a3 h3 a4 h4 a5 h5 a6 h6 X n).2.2.2.1
      (st c i a1 h1 a2 h2 a3 h3 a4 h4 a5 h5 a6 h6 X n).2.2.2.2.1 (st c i a1 h1 a2 h2 a3 h3 a4 h4 a5 h5 a6 h6 X n).2.2.2.2.2
      (ix2 p l) (tops (lane (row E p) l.val) n) := by
  induction n with
  | zero => exact six_init _ _
  | succ n ih =>
    have hk : n < k1_t1_loop.trips := by rw [show k1_t1_loop.trips = 78 from by decide]; omega
    have hs := st_k1_t1_succ (F := Ideal) Variants.none c none i a1 h1 a2 h2 a3 h3 a4 h4 a5 h5 a6 h6 X (k1_pay9, k1_pay9, k1_pay9, k1_pay9, k1_pay9, k1_pay9) ⟨n, hk⟩
    have ih := ih (by omega)
    unfold st at ih ⊢
    rw [hs]
    unfold tripR_k1_t1 trip_k1_t1
    dsimp only
    rw [tops]
    have hL : View.readAt (Elt Ideal) a3.view (Rect.unit (s := S80x10000) (k1_off1 ⟨n, hk⟩) S80x128.size (k1_off1_inb ⟨n, hk⟩)).toLoadRect X (ix2 p l)
        = lane (row E p) l.val n := by
      rw [View.readAt_eq_ld, hX, lane, dif_pos (by have := l.isLt; omega)]
      refine congrArg E (funext fun a => Fin.ext ?_)
      have ho := congrFun (k1_off1_eq ⟨n, hk⟩) a
      fin_cases a
      · show k1_off1 ⟨n, hk⟩ 0 + 1 * p.val = p.val
        rw [show k1_off1 ⟨n, hk⟩ 0 = 0 from ho]; omega
      · show k1_off1 ⟨n, hk⟩ 1 + 1 * l.val = 128 * n + l.val
        rw [show k1_off1 ⟨n, hk⟩ 1 = 128 * n from ho]; omega
    rw [← hL]
    exact six_step _ _ _ _ _ _ _ _ _ ih

/-- The threshold of every row, from the carried blocks after the loop and the last columns. -/
theorem te_apply (X : BufTy.Contents (Elt Ideal) a3.view.ty) (E : Vec Ideal S80x10000 .f32) (hX : a3.view.read (Elt Ideal) X = E)
    (v : Vec Ideal S80x16 .f32) (hv : ∀ (p : Fin 80) (l : Fin 16), v (ix2 p l) = E (ix2 p ⟨9984 + l.val, by have := l.isLt; omega⟩)) (p : Fin 80)
    (s : FVec Ideal S80x128 .f32 × FVec Ideal S80x128 .f32 × FVec Ideal S80x128 .f32 × FVec Ideal S80x128 .f32 × FVec Ideal S80x128 .f32 × FVec Ideal S80x128 .f32)
    (hs : s = st c i a1 h1 a2 h2 a3 h3 a4 h4 a5 h5 a6 h6 X 78) :
    Scf.fold (n := k1_t2_loop.trips) (fun _ a => k1_pay3 s.2.2.2.2.2 (k1_pay22 s.1 v) (k1_pay24 s.1 s.2.1 v) (k1_pay26 s.1 s.2.1 s.2.2.1 v) (k1_pay28 s.1 s.2.1 s.2.2.1 s.2.2.2.1 v) (k1_pay30 s.1 s.2.1 s.2.2.1 s.2.2.2.1 s.2.2.2.2.1 v) (k1_pay31 s.1 s.2.1 s.2.2.1 s.2.2.2.1 s.2.2.2.2.1 v) a)
      (k1_pay2 s.2.2.2.2.2 (k1_pay22 s.1 v) (k1_pay24 s.1 s.2.1 v) (k1_pay26 s.1 s.2.1 s.2.2.1 v) (k1_pay28 s.1 s.2.1 s.2.2.1 s.2.2.2.1 v) (k1_pay30 s.1 s.2.1 s.2.2.1 s.2.2.2.1 s.2.2.2.2.1 v) (k1_pay31 s.1 s.2.1 s.2.2.1 s.2.2.2.1 s.2.2.2.2.1 v)) (ix2 p 0)
      = thr (row E p) := by
  subst hs
  refine thr_apply _ _ _ _ _ _ _ (row E p) p fun q => ?_
  refine cand_apply _ _ _ _ _ _ _ (fun p l => tops (lane (row E p) l) 79) (fun p l => ?_) p q
  have h := six_tail _ _ _ _ _ _ v _ _ (st_apply c i a1 h1 a2 h2 a3 h3 a4 h4 a5 h5 a6 h6 X E hX p l 78 (by omega))
  have ht : k1_pay21 v (ix2 p l) = lane (row E p) l.val 78 := by
    rw [tail_apply, lane]
    by_cases hl : l.val < 16
    · rw [dif_pos hl, dif_pos (by omega), hv]; rfl
    · rw [dif_neg hl, dif_neg (by omega)]
  rw [ht] at h
  exact h

/-- An index of a column. -/
theorem col_eq (j : S80x1.Idx) : j = ix2 (j 0) 0 := by
  rw [eq_ix2 j]; exact congrArg (ix2 (j 0)) (Subsingleton.elim (α := Fin 1) (j 1) 0)

/-! ## The output blocks -/

/-- The thresholds of a block, a column. -/
def thrCol (E : FVec Ideal S80x10000 .f32) : FVec Ideal S80x1 .f32 := fun j => thr (row E (j 0))

/-- The loop's value on a block stored whole and read back. -/
theorem te_eq (E : Vec Ideal S80x10000 .f32) (X : BufTy.Contents (Elt Ideal) a3.view.ty)
    (hX : X = a3.view.writes (Elt Ideal) a3.view.junk [⟨Rect.unit (s := S80x10000) ![0, 0] S80x10000.size inb_S80x10000_S80x10000_0_0, E⟩])
    (v : Vec Ideal S80x16 .f32)
    (hv : v = a3.view.readCov [⟨Rect.unit (s := S80x10000) ![0, 0] S80x10000.size inb_S80x10000_S80x10000_0_0, E⟩] (Rect.unit (s := S80x10000) ![0, 9984] S80x16.size inb_S80x10000_S80x16_0_9984).toLoadRect)
    (s : FVec Ideal S80x128 .f32 × FVec Ideal S80x128 .f32 × FVec Ideal S80x128 .f32 × FVec Ideal S80x128 .f32 × FVec Ideal S80x128 .f32 × FVec Ideal S80x128 .f32)
    (hs : s = st c i a1 h1 a2 h2 a3 h3 a4 h4 a5 h5 a6 h6 X 78) :
    Scf.fold (n := k1_t2_loop.trips) (fun _ a => k1_pay3 s.2.2.2.2.2 (k1_pay22 s.1 v) (k1_pay24 s.1 s.2.1 v) (k1_pay26 s.1 s.2.1 s.2.2.1 v) (k1_pay28 s.1 s.2.1 s.2.2.1 s.2.2.2.1 v) (k1_pay30 s.1 s.2.1 s.2.2.1 s.2.2.2.1 s.2.2.2.2.1 v) (k1_pay31 s.1 s.2.1 s.2.2.1 s.2.2.2.1 s.2.2.2.2.1 v) a)
      (k1_pay2 s.2.2.2.2.2 (k1_pay22 s.1 v) (k1_pay24 s.1 s.2.1 v) (k1_pay26 s.1 s.2.1 s.2.2.1 v) (k1_pay28 s.1 s.2.1 s.2.2.1 s.2.2.2.1 v) (k1_pay30 s.1 s.2.1 s.2.2.1 s.2.2.2.1 s.2.2.2.2.1 v) (k1_pay31 s.1 s.2.1 s.2.2.1 s.2.2.2.1 s.2.2.2.2.1 v))
      = thrCol E := by
  have hcov : ∀ y : S80x10000.Idx, ∃ p ∈ [(⟨Rect.unit (s := S80x10000) ![0, 0] S80x10000.size inb_S80x10000_S80x10000_0_0, E⟩ : View.Piece (Elt Ideal) S80x10000 .f32)], y ∈ p.1.set :=
    fun y => ⟨_, List.mem_singleton_self _, View.mem_set_unit_zero (S := S80x10000) hz inb_S80x10000_S80x10000_0_0 y⟩
  funext j
  rw [col_eq j]
  refine te_apply c i a1 h1 a2 h2 a3 h3 a4 h4 a5 h5 a6 h6 X E ?_ v ?_ (j 0) s hs
  · rw [hX, View.read_writes_eq_canon _ _ _ hcov, View.canon_unit_zero (S := S80x10000) hz]
  · intro p l
    rw [hv, View.readCov_eq_canon_ld _ _ _ hcov, View.canon_unit_zero (S := S80x10000) hz]
    refine congrArg E (funext fun a => Fin.ext ?_)
    fin_cases a
    · show 0 + 1 * p.val = p.val; omega
    · show 9984 + 1 * l.val = 9984 + l.val; omega

section A

variable (hc : cond1_0 i) (x0 : Vec Ideal S80x512 .f32) (x1 : Vec Ideal S10000x512 .f32)

/-- The activations the first point stores. -/
theorem out_A_2 : out1_A_2 c i a1 h1 a2 h2 a3 h3 a4 h4 a5 h5 a6 h6 hc x0 x1 = k1_pay8 x0 x1 := by
  unfold out1_A_2
  rw [View.read_writes_eq_canon _ _ _ (cover1_A_2 c i a1 h1 a2 h2 a3 h3 a4 h4 a5 h5 a6 h6 hc x0 x1)]
  unfold kernelRun1_A
  dsimp only
  sl_unfold_words
  rw [View.canon_unit_zero hz]
  simp only [View.readAt_eq_ld, h1.read_unread, h2.read_unread, h6.read_unread, View.ld_unit_zero (S := S80x512) hz, View.ld_unit_zero (S := S10000x512) hz, View.ld_unit_zero (S := S1x10000) hz, shapeCast_self]

/-- The thresholds the first point stores. -/
theorem out_A_3 : out1_A_3 c i a1 h1 a2 h2 a3 h3 a4 h4 a5 h5 a6 h6 hc x0 x1 = thrCol (k1_pay8 x0 x1) := by
  unfold out1_A_3
  rw [View.read_writes_eq_canon _ _ _ (cover1_A_3 c i a1 h1 a2 h2 a3 h3 a4 h4 a5 h5 a6 h6 hc x0 x1)]
  unfold kernelRun1_A
  dsimp only
  sl_unfold_words
  rw [View.canon_unit_zero hz]
  simp only [View.readAt_eq_ld, h1.read_unread, h2.read_unread, h6.read_unread, View.ld_unit_zero (S := S80x512) hz, View.ld_unit_zero (S := S10000x512) hz, View.ld_unit_zero (S := S1x10000) hz, shapeCast_self]
  exact te_eq c i a1 h1 a2 h2 a3 h3 a4 h4 a5 h5 a6 h6 (k1_pay8 x0 x1) _ rfl _ rfl _ rfl

/-- The row sums the first point stores. -/
theorem out_A_4 : out1_A_4 c i a1 h1 a2 h2 a3 h3 a4 h4 a5 h5 a6 h6 hc x0 x1 = k1_pay5 (thrCol (k1_pay8 x0 x1)) (k1_pay8 x0 x1) := by
  unfold out1_A_4
  rw [View.read_writes_eq_canon _ _ _ (cover1_A_4 c i a1 h1 a2 h2 a3 h3 a4 h4 a5 h5 a6 h6 hc x0 x1)]
  unfold kernelRun1_A
  dsimp only
  sl_unfold_words
  rw [View.canon_unit_zero hz]
  simp only [View.readAt_eq_ld, h1.read_unread, h2.read_unread, h6.read_unread, View.ld_unit_zero (S := S80x512) hz, View.ld_unit_zero (S := S10000x512) hz, View.ld_unit_zero (S := S1x10000) hz, shapeCast_self]
  exact congrArg₂ k1_pay5 (te_eq c i a1 h1 a2 h2 a3 h3 a4 h4 a5 h5 a6 h6 (k1_pay8 x0 x1) _ rfl _ rfl _ rfl) (View.readCov_unit_zero (S := S80x10000) _ hz _ _)

/-- The column sums the first point stores. -/
theorem out_A_5 : out1_A_5 c i a1 h1 a2 h2 a3 h3 a4 h4 a5 h5 a6 h6 hc x0 x1 = k1_pay7 (thrCol (k1_pay8 x0 x1)) (k1_pay8 x0 x1) (k1_pay6 (F := Ideal)) := by
  unfold out1_A_5
  rw [View.read_writes_eq_canon _ _ _ (cover1_A_5 c i a1 h1 a2 h2 a3 h3 a4 h4 a5 h5 a6 h6 hc x0 x1)]
  unfold kernelRun1_A
  dsimp only
  sl_unfold_words
  rw [View.canon_cons_unit_zero hz]
  simp only [View.readAt_eq_ld, h1.read_unread, h2.read_unread, h6.read_unread, View.ld_unit_zero (S := S80x512) hz, View.ld_unit_zero (S := S10000x512) hz, View.ld_unit_zero (S := S1x10000) hz, shapeCast_self]
  rw [View.readCov_unit_zero (S := S80x10000) _ hz _ _, View.readCov_unit_zero (S := S1x10000) _ hz _ _]
  exact congrArg (fun t => k1_pay7 t (k1_pay8 x0 x1) (k1_pay6 (F := Ideal))) (te_eq c i a1 h1 a2 h2 a3 h3 a4 h4 a5 h5 a6 h6 (k1_pay8 x0 x1) _ rfl _ rfl _ rfl)

end A

section B

variable (hc : ¬cond1_0 i) (x0 : Vec Ideal S80x512 .f32) (x1 : Vec Ideal S10000x512 .f32) (xo5 : Vec Ideal S1x10000 .f32)

/-- The activations a later point stores. -/
theorem out_B_2 : out1_B_2 c i a1 h1 a2 h2 a3 h3 a4 h4 a5 h5 a6 h6 hc x0 x1 xo5 = k1_pay8 x0 x1 := by
  unfold out1_B_2
  rw [View.read_writes_eq_canon _ _ _ (cover1_B_2 c i a1 h1 a2 h2 a3 h3 a4 h4 a5 h5 a6 h6 hc x0 x1 xo5)]
  unfold kernelRun1_B
  dsimp only
  sl_unfold_words
  rw [View.canon_unit_zero hz]
  simp only [View.readAt_eq_ld, h1.read_unread, h2.read_unread, h6.read_unread, View.ld_unit_zero (S := S80x512) hz, View.ld_unit_zero (S := S10000x512) hz, View.ld_unit_zero (S := S1x10000) hz, shapeCast_self]

/-- The thresholds a later point stores. -/
theorem out_B_3 : out1_B_3 c i a1 h1 a2 h2 a3 h3 a4 h4 a5 h5 a6 h6 hc x0 x1 xo5 = thrCol (k1_pay8 x0 x1) := by
  unfold out1_B_3
  rw [View.read_writes_eq_canon _ _ _ (cover1_B_3 c i a1 h1 a2 h2 a3 h3 a4 h4 a5 h5 a6 h6 hc x0 x1 xo5)]
  unfold kernelRun1_B
  dsimp only
  sl_unfold_words
  rw [View.canon_unit_zero hz]
  simp only [View.readAt_eq_ld, h1.read_unread, h2.read_unread, h6.read_unread, View.ld_unit_zero (S := S80x512) hz, View.ld_unit_zero (S := S10000x512) hz, View.ld_unit_zero (S := S1x10000) hz, shapeCast_self]
  exact te_eq c i a1 h1 a2 h2 a3 h3 a4 h4 a5 h5 a6 h6 (k1_pay8 x0 x1) _ rfl _ rfl _ rfl

/-- The row sums a later point stores. -/
theorem out_B_4 : out1_B_4 c i a1 h1 a2 h2 a3 h3 a4 h4 a5 h5 a6 h6 hc x0 x1 xo5 = k1_pay5 (thrCol (k1_pay8 x0 x1)) (k1_pay8 x0 x1) := by
  unfold out1_B_4
  rw [View.read_writes_eq_canon _ _ _ (cover1_B_4 c i a1 h1 a2 h2 a3 h3 a4 h4 a5 h5 a6 h6 hc x0 x1 xo5)]
  unfold kernelRun1_B
  dsimp only
  sl_unfold_words
  rw [View.canon_unit_zero hz]
  simp only [View.readAt_eq_ld, h1.read_unread, h2.read_unread, h6.read_unread, View.ld_unit_zero (S := S80x512) hz, View.ld_unit_zero (S := S10000x512) hz, View.ld_unit_zero (S := S1x10000) hz, shapeCast_self]
  exact congrArg₂ k1_pay5 (te_eq c i a1 h1 a2 h2 a3 h3 a4 h4 a5 h5 a6 h6 (k1_pay8 x0 x1) _ rfl _ rfl _ rfl) (View.readCov_unit_zero (S := S80x10000) _ hz _ _)

/-- The column sums a later point stores. -/
theorem out_B_5 : out1_B_5 c i a1 h1 a2 h2 a3 h3 a4 h4 a5 h5 a6 h6 hc x0 x1 xo5 = k1_pay7 (thrCol (k1_pay8 x0 x1)) (k1_pay8 x0 x1) xo5 := by
  unfold out1_B_5
  rw [View.read_writes_eq_canon _ _ _ (cover1_B_5 c i a1 h1 a2 h2 a3 h3 a4 h4 a5 h5 a6 h6 hc x0 x1 xo5)]
  unfold kernelRun1_B
  dsimp only
  sl_unfold_words
  rw [View.canon_unit_zero hz]
  simp only [View.readAt_eq_ld, h1.read_unread, h2.read_unread, h6.read_unread, View.ld_unit_zero (S := S80x512) hz, View.ld_unit_zero (S := S10000x512) hz, View.ld_unit_zero (S := S1x10000) hz, shapeCast_self]
  rw [View.readCov_unit_zero (S := S80x10000) _ hz _ _]
  exact congrArg (fun t => k1_pay7 t (k1_pay8 x0 x1) xo5) (te_eq c i a1 h1 a2 h2 a3 h3 a4 h4 a5 h5 a6 h6 (k1_pay8 x0 x1) _ rfl _ rfl _ rfl)

end B

end Cert.KernelIdeal.Value

end
-- ==== Proof.Region0.lean ====
/-
  The array the first region leaves: every row through the two layers of the perceptron, divided by its length.
-/
module

public import proofs.«01_k».proof.Proof.PassA

@[expose] public section

noncomputable section

open Idealize.ShloMosaic Idealize.ShloMosaic.TcCoe Idealize.ShloMosaic.ValueIdx Idealize.SL.Sem
open Idealize.ShloMosaic.Pipeline (Dat)

namespace Cert.KernelIdeal.Value

open Cert.KernelIdeal Cert.KernelIdeal.Gen Cert.Graph

/-! ## The payload at an index -/

/-- The product of a block of rows with a matrix of weights, at an index. -/
theorem prod_apply (x : FVec Ideal S2000x512 .f32) (w : FVec Ideal S512x512 .f32) (p : Fin 2000) (k : Fin 512) :
    matmul (F := Ideal) (φ₁ := .f32) (φ₂ := .f32) dot_S2000x512_S512x512_S2000x512_1_0_0_1_n_n none x w
      (constant (F := Ideal) S2000x512 .f32 0x00000000#32) (ix2 p k) = ∑ l : Fin 512, x (ix2 p l) * w (ix2 l k) := by
  show FloatOps.matmul _ _ _ _ _ _ = _
  rw [Ideal.matmul_constant_zero_apply, ← Equiv.sum_comp (contrEquiv1 dot_S2000x512_S512x512_S2000x512_1_0_0_1_n_n 512 rfl rfl).symm]
  refine Finset.sum_congr rfl fun l _ => ?_
  congr 1
  · exact congrArg x (funext fun a => by fin_cases a <;> rfl)
  · exact congrArg w (funext fun a => by fin_cases a <;> rfl)

/-- The product plus a bias row, at an index. -/
theorem dense_apply (x : FVec Ideal S2000x512 .f32) (w : FVec Ideal S512x512 .f32) (b : FVec Ideal S1x512 .f32) (p : Fin 2000) (k : Fin 512) :
    addf (matmul (F := Ideal) (φ₁ := .f32) (φ₂ := .f32) dot_S2000x512_S512x512_S2000x512_1_0_0_1_n_n none x w
      (constant (F := Ideal) S2000x512 .f32 0x00000000#32)) (broadcastTo S2000x512 b broadcasts_S1x512_S2000x512) (ix2 p k)
      = dense (fun l => x (ix2 p l)) (fun l k => w (ix2 l k)) (fun k => b (ix2 0 k)) k := by
  rw [addf_apply, prod_apply, broadcastTo_apply b _ (ix2 p k) (ix2 0 k) (fun a => by fin_cases a <;> rfl)]
  rfl

/-- A block of rows, each divided by its length, at an index. -/
theorem unit_apply (h : FVec Ideal S2000x512 .f32) (p : Fin 2000) (k : Fin 512) :
    divf h (broadcastTo S2000x512 (maximumf (sqrt (shapeCast S2000x1 (multiReduction .add [1] S2000 (mulf h h) 0x00000000#32
      reduces_S2000x512_S2000 (.inl rfl) rfl) shapeCasts_S2000_S2000x1)) (broadcast S2000x1 (Scalar.ofBits .f32 0x2B8CBCCC#32 : Ideal .f32)))
      broadcasts_S2000x1_S2000x512) (ix2 p k) = unitRow (fun l => h (ix2 p l)) k := by
  show Ideal.div (h (ix2 p k)) _ = _
  rw [broadcastTo_apply _ _ (ix2 p k) (ix2 p 0) (fun a => by fin_cases a <;> rfl)]
  refine congrArg (Ideal.div (h (ix2 p k))) ?_
  show max (Ideal.sqrt _) (Ideal.ofBits .f32 0x2B8CBCCC#32) = _
  rw [shapeCast_apply _ _ _ (ix1 p) (by rw [Shape.rowMajor_val_one, Shape.rowMajor_val_two]; show p.val = p.val * 1 + 0; omega)]
  refine congrArg (fun s => max (Ideal.sqrt s) (Ideal.ofBits .f32 0x2B8CBCCC#32)) ?_
  refine (Ideal.multiReduction_add_single _ _ _ _ _ _).trans ?_
  refine Finset.sum_congr rfl fun l _ => ?_
  exact congrArg (fun i => h i * h i) (funext fun a => by fin_cases a <;> rfl)

/-- The block the region's body stores, at an index. -/
theorem embed_apply (x : Vec Ideal S2000x512 .f32) (w₀ : Vec Ideal S512x512 .f32) (b₀ : Vec Ideal S1x512 .f32)
    (w₁ : Vec Ideal S512x512 .f32) (b₁ : Vec Ideal S1x512 .f32) (p : Fin 2000) (k : Fin 512) :
    k0_pay1 x w₀ b₀ w₁ b₁ (ix2 p k) = embed (fun l => x (ix2 p l)) (fun l k => w₀ (ix2 l k)) (fun k => b₀ (ix2 0 k))
      (fun l k => w₁ (ix2 l k)) (fun k => b₁ (ix2 0 k)) k := by
  unfold k0_pay1
  rw [shapeCast_self, shapeCast_self]
  refine (unit_apply _ p k).trans ?_
  unfold embed
  refine congrArg (fun h => unitRow h k) (funext fun l => ?_)
  refine (dense_apply _ _ _ p l).trans ?_
  refine congrArg (fun h => dense h _ _ l) (funext fun r => ?_)
  rw [show ∀ (v w : FVec Ideal S2000x512 .f32) (i : S2000x512.Idx), maximumf v w i = max (v i) (w i) from fun _ _ _ => rfl, dense_apply]
  show max _ (Ideal.ofBits .f32 0x00000000#32) = _
  rw [Ideal.ofBits_zero_f32]
  rfl

/-! ## The blocks the region reads and writes -/

theorem index0_0 : ∀ t : Fin grid0.N, win0_0.index t 0 = t.val ∧ win0_0.index t 1 = 0 := by decide +kernel
theorem index0_1 : ∀ t : Fin grid0.N, win0_1.index t 0 = 0 ∧ win0_1.index t 1 = 0 := by decide +kernel
theorem index0_2 : ∀ t : Fin grid0.N, win0_2.index t 0 = 0 ∧ win0_2.index t 1 = 0 := by decide +kernel
theorem index0_3 : ∀ t : Fin grid0.N, win0_3.index t 0 = 0 ∧ win0_3.index t 1 = 0 := by decide +kernel
theorem index0_4 : ∀ t : Fin grid0.N, win0_4.index t 0 = 0 ∧ win0_4.index t 1 = 0 := by decide +kernel
theorem index0_5 : ∀ t : Fin grid0.N, win0_5.index t 0 = t.val ∧ win0_5.index t 1 = 0 := by decide +kernel

theorem N0_lt (t : Fin cfg0.N) : t.val < 5 := lt_of_lt_of_eq t.isLt (by decide +kernel)

/-- Row `p` of block `t` of 2000 rows. -/
def rowIn (t : Fin cfg0.N) (p : Fin 2000) : Fin 10000 := ⟨2000 * t.val + p.val, by have := N0_lt t; have := p.isLt; omega⟩

variable (V : (c : Dev nD) → (b : Ref sig .tc) → Buf (Elt Ideal) ((c : Thread nD τ).loc b)) (c : Dev nD)

theorem iblk0_0_apply (t : Fin cfg0.N) (p : Fin 2000) (k : Fin 512) :
    (iblk0 V c 0 t : Vec Ideal S2000x512 .f32) (ix2 p k) = V c main_arg0 (ix2 (rowIn t p) k) := by
  unfold iblk0
  rw [View.read_apply]
  show V c main_arg0 _ = V c main_arg0 _
  congr 1
  funext a
  apply Fin.ext
  match a with
  | ⟨0, _⟩ => show win0_0.index t 0 * 2000 + 1 * p.val = 2000 * t.val + p.val; rw [(index0_0 t).1]; omega
  | ⟨1, _⟩ => show win0_0.index t 1 * 512 + 1 * k.val = k.val; rw [(index0_0 t).2]; omega

theorem iblk0_1_apply (t : Fin cfg0.N) (l k : Fin 512) :
    (iblk0 V c 1 t : Vec Ideal S512x512 .f32) (ix2 l k) = V c main_arg1 (ix2 l k) := by
  unfold iblk0
  rw [View.read_apply]
  show V c main_arg1 _ = V c main_arg1 _
  congr 1
  funext a
  apply Fin.ext
  match a with
  | ⟨0, _⟩ => show win0_1.index t 0 * 512 + 1 * l.val = l.val; rw [(index0_1 t).1]; omega
  | ⟨1, _⟩ => show win0_1.index t 1 * 512 + 1 * k.val = k.val; rw [(index0_1 t).2]; omega

theorem iblk0_2_apply (t : Fin cfg0.N) (k : Fin 512) :
    (iblk0 V c 2 t : Vec Ideal S1x512 .f32) (ix2 0 k) = V c main_v0 (ix2 0 k) := by
  unfold iblk0
  rw [View.read_apply]
  show V c main_v0 _ = V c main_v0 _
  congr 1
  funext a
  apply Fin.ext
  match a with
  | ⟨0, _⟩ => show win0_2.index t 0 * 1 + 1 * 0 = 0; rw [(index0_2 t).1]
  | ⟨1, _⟩ => show win0_2.index t 1 * 512 + 1 * k.val = k.val; rw [(index0_2 t).2]; omega

theorem iblk0_3_apply (t : Fin cfg0.N) (l k : Fin 512) :
    (iblk0 V c 3 t : Vec Ideal S512x512 .f32) (ix2 l k) = V c main_arg3 (ix2 l k) := by
  unfold iblk0
  rw [View.read_apply]
  show V c main_arg3 _ = V c main_arg3 _
  congr 1
  funext a
  apply Fin.ext
  match a with
  | ⟨0, _⟩ => show win0_3.index t 0 * 512 + 1 * l.val = l.val; rw [(index0_3 t).1]; omega
  | ⟨1, _⟩ => show win0_3.index t 1 * 512 + 1 * k.val = k.val; rw [(index0_3 t).2]; omega

theorem iblk0_4_apply (t : Fin cfg0.N) (k : Fin 512) :
    (iblk0 V c 4 t : Vec Ideal S1x512 .f32) (ix2 0 k) = V c main_v1 (ix2 0 k) := by
  unfold iblk0
  rw [View.read_apply]
  show V c main_v1 _ = V c main_v1 _
  congr 1
  funext a
  apply Fin.ext
  match a with
  | ⟨0, _⟩ => show win0_4.index t 0 * 1 + 1 * 0 = 0; rw [(index0_4 t).1]
  | ⟨1, _⟩ => show win0_4.index t 1 * 512 + 1 * k.val = k.val; rw [(index0_4 t).2]; omega

/-- The normalized rows, from the arrays the region reads. -/
def emb0 (i : Fin 10000) : Fin 512 → EReal :=
  embed (fun l => V c main_arg0 (ix2 i l)) (fun l k => V c main_arg1 (ix2 l k)) (fun k => V c main_v0 (ix2 0 k))
    (fun l k => V c main_arg3 (ix2 l k)) (fun k => V c main_v1 (ix2 0 k))

/-- The array of normalized rows. -/
def arrZ : Buf (Elt Ideal) ((c : Thread nD τ).loc main_v2) := fun x => emb0 V c (x 0) (x 1)

theorem out0_5_eq (x0 : Vec Ideal S2000x512 .f32) (x1 : Vec Ideal S512x512 .f32) (x2 : Vec Ideal S1x512 .f32) (x3 : Vec Ideal S512x512 .f32) (x4 : Vec Ideal S1x512 .f32) :
    out0_5 x0 x1 x2 x3 x4 = k0_pay1 x0 x1 x2 x3 x4 := by
  unfold out0_5
  rw [View.canon_unit_zero hz, View.ld_unit_zero hz, View.ld_unit_zero hz, View.ld_unit_zero hz, View.ld_unit_zero hz, View.ld_unit_zero hz]

theorem out0_apply (t : Fin cfg0.N) (p : Fin 2000) (k : Fin 512) :
    out0_5 (iblk0 V c 0 t) (iblk0 V c 1 t) (iblk0 V c 2 t) (iblk0 V c 3 t) (iblk0 V c 4 t) (ix2 p k) = emb0 V c (rowIn t p) k := by
  rw [out0_5_eq]
  refine (embed_apply _ _ _ _ _ p k).trans ?_
  unfold emb0
  rw [funext fun l => iblk0_0_apply V c t p l, funext fun l => funext fun k => iblk0_1_apply V c t l k, funext fun k => iblk0_2_apply V c t k,
    funext fun l => funext fun k => iblk0_3_apply V c t l k, funext fun k => iblk0_4_apply V c t k]

theorem flushed0_5 (t : Fin cfg0.N) : (dat0 V c).flushed 5 t = ((cfg0.win 5).blk t).view.read (Elt Ideal) (arrZ V c) := by
  show (cfg0.win 5).cut (grid0.coords t) ((dat0 V c).after 5 t) = _
  rw [after0_5]
  funext j
  rw [View.read_apply]
  have e0 : (((cfg0.win 5).blk t).view.emb j 0).val = 2000 * t.val + (j 0).val := by
    show win0_5.index t 0 * 2000 + 1 * (j 0).val = _; rw [(index0_5 t).1]; omega
  have e1 : (((cfg0.win 5).blk t).view.emb j 1).val = (j 1).val := by
    show win0_5.index t 1 * 512 + 1 * (j 1).val = _; rw [(index0_5 t).2]; omega
  have hj : j = (ix2 (j 0) (j 1) : S2000x512.Idx) := funext fun a => by fin_cases a <;> rfl
  show (out0_5 (F := Ideal) (iblk0 V c 0 t) (iblk0 V c 1 t) (iblk0 V c 2 t) (iblk0 V c 3 t) (iblk0 V c 4 t) j : EReal) = emb0 V c (((cfg0.win 5).blk t).view.emb j 0) (((cfg0.win 5).blk t).view.emb j 1)
  rw [show ((cfg0.win 5).blk t).view.emb j 0 = rowIn t (j 0) from Fin.ext e0, show ((cfg0.win 5).blk t).view.emb j 1 = j 1 from Fin.ext e1]
  exact (congrArg (out0_5 _ _ _ _ _) hj).trans (out0_apply V c t (j 0) (j 1))

/-- The first region leaves the array of normalized rows. -/
theorem final0_5 : (dat0 V c).arrAt 5 cfg0.N = arrZ V c :=
  (dat0 V c).arrAt_eq_of_cover 5 (arrZ V c) (fun t _ => flushed0_5 V c t) <| fun i => by
    have h0 : (i 0 : Nat) < 10000 := (i 0).isLt
    have h1 : (i 1 : Nat) < 512 := (i 1).isLt
    let t : Fin cfg0.N := ⟨(i 0).val / 2000, by rw [show cfg0.N = 5 from by decide +kernel]; omega⟩
    have ht : t.val = (i 0).val / 2000 := rfl
    refine ⟨t, flush0_5 t, ?_⟩
    show i ∈ ((View.whole main_v2).slice (win0_5.rect t)).set
    rw [View.set_slice_whole, Rect.mem_set_unit]
    intro a
    match a with
    | ⟨0, _⟩ =>
      show win0_5.index t 0 * 2000 ≤ (i 0 : Nat) ∧ (i 0 : Nat) < win0_5.index t 0 * 2000 + 2000
      rw [(index0_5 t).1]; omega
    | ⟨1, _⟩ =>
      show win0_5.index t 1 * 512 ≤ (i 1 : Nat) ∧ (i 1 : Nat) < win0_5.index t 1 * 512 + 512
      rw [(index0_5 t).2]; omega

end Cert.KernelIdeal.Value

end
-- ==== Proof.Region1.lean ====
/-
  The arrays the second region leaves: the activations, the row thresholds, the row sums and the column sums, each as one
  function of the normalized rows it reads.
-/
module

public import proofs.«01_k».proof.Proof.PassA

@[expose] public section

noncomputable section

open Idealize.ShloMosaic Idealize.ShloMosaic.TcCoe Idealize.ShloMosaic.ValueIdx Idealize.SL.Sem
open Idealize.ShloMosaic.Pipeline (Dat)

namespace Cert.KernelIdeal.Value

open Cert.KernelIdeal Cert.KernelIdeal.Gen Cert.Graph

/-! ## The blocks the region reads and writes -/

theorem index1_0 : ∀ t : Fin grid1.N, win1_0.index t 0 = t.val ∧ win1_0.index t 1 = 0 := by decide +kernel
theorem index1_1 : ∀ t : Fin grid1.N, win1_1.index t 0 = 0 ∧ win1_1.index t 1 = 0 := by decide +kernel
theorem index1_2 : ∀ t : Fin grid1.N, win1_2.index t 0 = t.val ∧ win1_2.index t 1 = 0 := by decide +kernel
theorem index1_3 : ∀ t : Fin grid1.N, win1_3.index t 0 = t.val ∧ win1_3.index t 1 = 0 := by decide +kernel
theorem index1_4 : ∀ t : Fin grid1.N, win1_4.index t 0 = t.val ∧ win1_4.index t 1 = 0 := by decide +kernel
theorem index1_5 : ∀ t : Fin grid1.N, win1_5.index t 0 = 0 ∧ win1_5.index t 1 = 0 := by decide +kernel

theorem N1_lt (t : Fin cfg1.N) : t.val < 125 := lt_of_lt_of_eq t.isLt (by decide +kernel)

/-- Row `p` of block `t` of 80 rows. -/
def rowOf (t : Fin cfg1.N) (p : Fin 80) : Fin 10000 := ⟨80 * t.val + p.val, by have := N1_lt t; have := p.isLt; omega⟩

variable (V : (c : Dev nD) → (b : Ref sig .tc) → Buf (Elt Ideal) ((c : Thread nD τ).loc b)) (c : Dev nD)

/-- The normalized rows the region reads. -/
def Z (i : Fin 10000) (k : Fin 512) : EReal := V c main_v2 (ix2 i k)

theorem iblk1_0_apply (t : Fin cfg1.N) (p : Fin 80) (k : Fin 512) :
    (iblk1 V c 0 t : Vec Ideal S80x512 .f32) (ix2 p k) = Z V c (rowOf t p) k := by
  unfold iblk1
  rw [View.read_apply]
  show V c main_v2 _ = V c main_v2 _
  congr 1
  funext a
  apply Fin.ext
  match a with
  | ⟨0, _⟩ => show win1_0.index t 0 * 80 + 1 * p.val = 80 * t.val + p.val; rw [(index1_0 t).1]; omega
  | ⟨1, _⟩ => show win1_0.index t 1 * 512 + 1 * k.val = k.val; rw [(index1_0 t).2]; omega

theorem iblk1_1_apply (t : Fin cfg1.N) (j : Fin 10000) (k : Fin 512) :
    (iblk1 V c 1 t : Vec Ideal S10000x512 .f32) (ix2 j k) = Z V c j k := by
  unfold iblk1
  rw [View.read_apply]
  show V c main_v2 _ = V c main_v2 _
  congr 1
  funext a
  apply Fin.ext
  match a with
  | ⟨0, _⟩ => show win1_1.index t 0 * 10000 + 1 * j.val = j.val; rw [(index1_1 t).1]; omega
  | ⟨1, _⟩ => show win1_1.index t 1 * 512 + 1 * k.val = k.val; rw [(index1_1 t).2]; omega

/-- The activations of block `t`. -/
def blockE (t : Fin cfg1.N) : FVec Ideal S80x10000 .f32 := k1_pay8 (iblk1 V c 0 t) (iblk1 V c 1 t)

theorem row_blockE (t : Fin cfg1.N) (p : Fin 80) : row (blockE V c t) p = edge (Z V c) (rowOf t p) := by
  funext j
  unfold row blockE
  rw [act_apply, edge]
  refine congrArg act (Finset.sum_congr rfl fun k _ => ?_)
  rw [iblk1_0_apply, iblk1_1_apply]

/-- The kept activations of a row of block `t`. -/
theorem kept_block (t : Fin cfg1.N) (p : Fin 80) (j : Fin 10000) :
    (if thrCol (blockE V c t) (ix2 p 0) ≤ row (blockE V c t) p j then row (blockE V c t) p j else 0)
      = kept (edge (Z V c)) (rowOf t p) j := by
  have h : thrCol (blockE V c t) (ix2 p 0) = thr (row (blockE V c t) p) := rfl
  rw [h, row_blockE]; rfl

/-! ## What the staging buffers hold after a point -/

theorem outs_2 (t : Fin cfg1.N) : (outsAt1 V c t.val t.isLt).1 = blockE V c t := by
  by_cases h : t.val % 125 = 0
  · rw [outsAt1_A V c t h]; dsimp only; rw [out_A_2]; unfold blockE; rfl
  · rw [outsAt1_B V c t h]; dsimp only; rw [out_B_2]; unfold blockE; rfl

theorem outs_3 (t : Fin cfg1.N) : (outsAt1 V c t.val t.isLt).2.1 = thrCol (blockE V c t) := by
  by_cases h : t.val % 125 = 0
  · rw [outsAt1_A V c t h]; dsimp only; rw [out_A_3]; unfold blockE; rfl
  · rw [outsAt1_B V c t h]; dsimp only; rw [out_B_3]; unfold blockE; rfl

theorem outs_4 (t : Fin cfg1.N) : (outsAt1 V c t.val t.isLt).2.2.1 = k1_pay5 (thrCol (blockE V c t)) (blockE V c t) := by
  by_cases h : t.val % 125 = 0
  · rw [outsAt1_A V c t h]; dsimp only; rw [out_A_4]; unfold blockE; rfl
  · rw [outsAt1_B V c t h]; dsimp only; rw [out_B_4]; unfold blockE; rfl

/-- The sum of the kept activations of the first `80 (n + 1)` rows in a column, block by block. -/
theorem outs_5 : ∀ (n : ℕ) (h : n < cfg1.N) (j : Fin 10000), (outsAt1 V c n h).2.2.2 (ix2 0 j)
    = ∑ t : Fin (n + 1), ∑ p : Fin 80, kept (edge (Z V c)) (rowOf ⟨t.val, by have := t.isLt; omega⟩ p) j := by
  intro n
  induction n with
  | zero =>
    intro h j
    have e := outsAt1_A V c ⟨0, h⟩ rfl
    rw [show outsAt1 V c 0 h = _ from e]
    dsimp only
    rw [out_A_5]
    show k1_pay7 (thrCol (blockE V c ⟨0, h⟩)) (blockE V c ⟨0, h⟩) (k1_pay6 (F := Ideal)) (ix2 0 j) = _
    rw [colSum_apply, zero_apply, zero_add, Fin.sum_univ_one]
    exact Finset.sum_congr rfl fun p _ => kept_block V c ⟨0, h⟩ p j
  | succ n ih =>
    intro h j
    have hN : n + 1 < 125 := N1_lt ⟨n + 1, h⟩
    have e := outsAt1_B V c ⟨n + 1, h⟩ (by show ¬(n + 1) % 125 = 0; omega)
    rw [show outsAt1 V c (n + 1) h = _ from e]
    dsimp only
    rw [out_B_5]
    show k1_pay7 (thrCol (blockE V c ⟨n + 1, h⟩)) (blockE V c ⟨n + 1, h⟩) (outsAt1 V c n _).2.2.2 (ix2 0 j) = _
    rw [colSum_apply, ih, Fin.sum_univ_castSucc (n := n + 1)]
    exact congrArg _ (Finset.sum_congr rfl fun p _ => kept_block V c ⟨n + 1, h⟩ p j)

theorem blockE_apply (t : Fin cfg1.N) (j : S80x10000.Idx) : blockE V c t j = edge (Z V c) (rowOf t (j 0)) (j 1) :=
  (congrArg (blockE V c t) (eq_ix2 j)).trans (congrFun (row_blockE V c t (j 0)) (j 1))

theorem block_rowSum (t : Fin cfg1.N) (j : S80x1.Idx) :
    k1_pay5 (thrCol (blockE V c t)) (blockE V c t) j = rowSum (edge (Z V c)) (rowOf t (j 0)) := by
  refine (congrArg (k1_pay5 (thrCol (blockE V c t)) (blockE V c t)) (col_eq j)).trans ((rowSum_apply _ _ (j 0)).trans ?_)
  unfold rowSum
  exact Finset.sum_congr rfl fun q _ => kept_block V c t (j 0) q

/-- After the last point: the sum over all rows. -/
theorem outs_5_last (t : Fin cfg1.N) (ht : t.val = 124) (j : S1x10000.Idx) :
    (outsAt1 V c t.val t.isLt).2.2.2 j = colSum (edge (Z V c)) (j 1) := by
  have hj : j = ix2 0 (j 1) := by
    rw [eq_ix2 j]; exact congrArg (fun a : Fin 1 => ix2 a (j 1)) (Subsingleton.elim (α := Fin 1) (j 0) 0)
  refine (congrArg (outsAt1 V c t.val t.isLt).2.2.2 hj).trans ((outs_5 V c t.val t.isLt (j 1)).trans ?_)
  obtain ⟨n, hn⟩ := t
  obtain rfl : n = 124 := ht
  unfold colSum
  rw [← Fintype.sum_prod_type' (fun (a : Fin (124 + 1)) (b : Fin 80) => kept (edge (Z V c)) (rowOf ⟨a.val, by have := a.isLt; omega⟩ b) (j 1))]
  exact Fintype.sum_equiv (finProdFinEquiv (m := 125) (n := 80)) _ _ fun x => congrArg (fun q => kept (edge (Z V c)) q (j 1))
    (Fin.ext (by show 80 * x.1.val + x.2.val = x.2.val + 80 * x.1.val; omega))

/-! ## The arrays -/

/-- The activations. -/
def arrE : FVec Ideal S10000x10000 .f32 := fun x => edge (Z V c) (x 0) (x 1)
/-- The thresholds. -/
def arrT : FVec Ideal S10000x1 .f32 := fun x => thr (edge (Z V c) (x 0))
/-- The row sums of the kept activations. -/
def arrR : FVec Ideal S10000x1 .f32 := fun x => rowSum (edge (Z V c)) (x 0)
/-- The column sums of the kept activations. -/
def arrC : FVec Ideal S1x10000 .f32 := fun x => colSum (edge (Z V c)) (x 1)

theorem arrR_apply (x : S10000x1.Idx) : arrR V c x = rowSum (edge (Z V c)) (x 0) := rfl
theorem arrC_apply (x : S1x10000.Idx) : arrC V c x = colSum (edge (Z V c)) (x 1) := rfl

theorem flushed1_2 (t : Fin cfg1.N) :
    (dat1 V c).flushed 2 t = ((cfg1.win 2).blk t).view.read (Elt Ideal) (arrE V c) := by
  show (cfg1.win 2).cut (grid1.coords t) ((dat1 V c).after 2 t) = _
  rw [after1_2, outs_2]
  funext j
  rw [View.read_apply]
  have e0 : (((cfg1.win 2).blk t).view.emb j 0).val = 80 * t.val + (j 0).val := by
    show win1_2.index t 0 * 80 + 1 * (j 0).val = _; rw [(index1_2 t).1]; omega
  have e1 : (((cfg1.win 2).blk t).view.emb j 1).val = (j 1).val := by
    show win1_2.index t 1 * 10000 + 1 * (j 1).val = _; rw [(index1_2 t).2]; omega
  show blockE V c t j = edge (Z V c) (((cfg1.win 2).blk t).view.emb j 0) (((cfg1.win 2).blk t).view.emb j 1)
  rw [show ((cfg1.win 2).blk t).view.emb j 0 = rowOf t (j 0) from Fin.ext e0, show ((cfg1.win 2).blk t).view.emb j 1 = j 1 from Fin.ext e1]
  exact blockE_apply V c t j

theorem final1_2 : (dat1 V c).arrAt 2 cfg1.N = arrE V c :=
  (dat1 V c).arrAt_eq_of_cover 2 (arrE V c) (fun t _ => flushed1_2 V c t) <| fun i => by
    have h0 : (i 0 : Nat) < 10000 := (i 0).isLt
    have h1 : (i 1 : Nat) < 10000 := (i 1).isLt
    let t : Fin cfg1.N := ⟨(i 0).val / 80, by rw [show cfg1.N = 125 from by decide +kernel]; omega⟩
    have ht : t.val = (i 0).val / 80 := rfl
    refine ⟨t, flush1_2 t, ?_⟩
    show i ∈ ((View.whole main_v3_0).slice (win1_2.rect t)).set
    rw [View.set_slice_whole, Rect.mem_set_unit]
    intro a
    match a with
    | ⟨0, _⟩ =>
      show win1_2.index t 0 * 80 ≤ (i 0 : Nat) ∧ (i 0 : Nat) < win1_2.index t 0 * 80 + 80
      rw [(index1_2 t).1]; omega
    | ⟨1, _⟩ =>
      show win1_2.index t 1 * 10000 ≤ (i 1 : Nat) ∧ (i 1 : Nat) < win1_2.index t 1 * 10000 + 10000
      rw [(index1_2 t).2]; omega

theorem flushed1_3 (t : Fin cfg1.N) :
    (dat1 V c).flushed 3 t = ((cfg1.win 3).blk t).view.read (Elt Ideal) (arrT V c) := by
  show (cfg1.win 3).cut (grid1.coords t) ((dat1 V c).after 3 t) = _
  rw [after1_3, outs_3]
  funext j
  rw [View.read_apply]
  have e0 : (((cfg1.win 3).blk t).view.emb j 0).val = 80 * t.val + (j 0).val := by
    show win1_3.index t 0 * 80 + 1 * (j 0).val = _; rw [(index1_3 t).1]; omega
  have e1 : (((cfg1.win 3).blk t).view.emb j 1).val = (j 1).val := by
    show win1_3.index t 1 * 1 + 1 * (j 1).val = _; rw [(index1_3 t).2]; omega
  show thr (row (blockE V c t) (j 0)) = thr (edge (Z V c) (((cfg1.win 3).blk t).view.emb j 0))
  rw [show ((cfg1.win 3).blk t).view.emb j 0 = rowOf t (j 0) from Fin.ext e0]
  exact congrArg thr (row_blockE V c t (j 0))

theorem final1_3 : (dat1 V c).arrAt 3 cfg1.N = arrT V c :=
  (dat1 V c).arrAt_eq_of_cover 3 (arrT V c) (fun t _ => flushed1_3 V c t) <| fun i => by
    have h0 : (i 0 : Nat) < 10000 := (i 0).isLt
    have h1 : (i 1 : Nat) < 1 := (i 1).isLt
    let t : Fin cfg1.N := ⟨(i 0).val / 80, by rw [show cfg1.N = 125 from by decide +kernel]; omega⟩
    have ht : t.val = (i 0).val / 80 := rfl
    refine ⟨t, flush1_3 t, ?_⟩
    show i ∈ ((View.whole main_v3_1).slice (win1_3.rect t)).set
    rw [View.set_slice_whole, Rect.mem_set_unit]
    intro a
    match a with
    | ⟨0, _⟩ =>
      show win1_3.index t 0 * 80 ≤ (i 0 : Nat) ∧ (i 0 : Nat) < win1_3.index t 0 * 80 + 80
      rw [(index1_3 t).1]; omega
    | ⟨1, _⟩ =>
      show win1_3.index t 1 * 1 ≤ (i 1 : Nat) ∧ (i 1 : Nat) < win1_3.index t 1 * 1 + 1
      rw [(index1_3 t).2]; omega

theorem flushed1_4 (t : Fin cfg1.N) :
    (dat1 V c).flushed 4 t = ((cfg1.win 4).blk t).view.read (Elt Ideal) (arrR V c) := by
  show (cfg1.win 4).cut (grid1.coords t) ((dat1 V c).after 4 t) = _
  rw [after1_4, outs_4]
  have hB := block_rowSum V c t
  generalize k1_pay5 (thrCol (blockE V c t)) (blockE V c t) = B at hB ⊢
  funext j
  rw [View.read_apply]
  have e0 : (((cfg1.win 4).blk t).view.emb j 0).val = 80 * t.val + (j 0).val := by
    show win1_4.index t 0 * 80 + 1 * (j 0).val = _; rw [(index1_4 t).1]; omega
  have e1 : (((cfg1.win 4).blk t).view.emb j 1).val = (j 1).val := by
    show win1_4.index t 1 * 1 + 1 * (j 1).val = _; rw [(index1_4 t).2]; omega
  refine Eq.trans (b := B j) rfl ((hB j).trans ?_)
  refine Eq.trans ?_ (arrR_apply V c (((cfg1.win 4).blk t).view.emb j)).symm
  exact congrArg (rowSum (edge (Z V c))) (Fin.ext e0.symm)

theorem final1_4 : (dat1 V c).arrAt 4 cfg1.N = arrR V c :=
  (dat1 V c).arrAt_eq_of_cover 4 (arrR V c) (fun t _ => flushed1_4 V c t) <| fun i => by
    have h0 : (i 0 : Nat) < 10000 := (i 0).isLt
    have h1 : (i 1 : Nat) < 1 := (i 1).isLt
    let t : Fin cfg1.N := ⟨(i 0).val / 80, by rw [show cfg1.N = 125 from by decide +kernel]; omega⟩
    have ht : t.val = (i 0).val / 80 := rfl
    refine ⟨t, flush1_4 t, ?_⟩
    show i ∈ ((View.whole main_v3_2).slice (win1_4.rect t)).set
    rw [View.set_slice_whole, Rect.mem_set_unit]
    intro a
    match a with
    | ⟨0, _⟩ =>
      show win1_4.index t 0 * 80 ≤ (i 0 : Nat) ∧ (i 0 : Nat) < win1_4.index t 0 * 80 + 80
      rw [(index1_4 t).1]; omega
    | ⟨1, _⟩ =>
      show win1_4.index t 1 * 1 ≤ (i 1 : Nat) ∧ (i 1 : Nat) < win1_4.index t 1 * 1 + 1
      rw [(index1_4 t).2]; omega

theorem flushed1_5 (t : Fin cfg1.N) (hf : (cfg1.win 5).flush t = true) :
    (dat1 V c).flushed 5 t = ((cfg1.win 5).blk t).view.read (Elt Ideal) (arrC V c) := by
  show (cfg1.win 5).cut (grid1.coords t) ((dat1 V c).after 5 t) = _
  rw [after1_5]
  have h124 : t.val = 124 := by have := (flush1_5 t).mp hf; have := N1_lt t; omega
  have hB := outs_5_last V c t h124
  generalize (outsAt1 V c t.val t.isLt).2.2.2 = B at hB ⊢
  funext j
  rw [View.read_apply]
  have e0 : (((cfg1.win 5).blk t).view.emb j 0).val = (j 0).val := by
    show win1_5.index t 0 * 1 + 1 * (j 0).val = _; rw [(index1_5 t).1]; omega
  have e1 : (((cfg1.win 5).blk t).view.emb j 1).val = (j 1).val := by
    show win1_5.index t 1 * 10000 + 1 * (j 1).val = _; rw [(index1_5 t).2]; omega
  refine Eq.trans (b := B j) rfl ((hB j).trans ?_)
  refine Eq.trans ?_ (arrC_apply V c (((cfg1.win 5).blk t).view.emb j)).symm
  exact congrArg (colSum (edge (Z V c))) (Fin.ext e1.symm)

theorem final1_5 : (dat1 V c).arrAt 5 cfg1.N = arrC V c :=
  (dat1 V c).arrAt_eq_of_cover 5 (arrC V c) (flushed1_5 V c) <| fun i => by
    have h0 : (i 0 : Nat) < 1 := (i 0).isLt
    have h1 : (i 1 : Nat) < 10000 := (i 1).isLt
    let t : Fin cfg1.N := ⟨124, by rw [show cfg1.N = 125 from by decide +kernel]; omega⟩
    have ht : t.val = 124 := rfl
    refine ⟨t, (flush1_5 t).mpr rfl, ?_⟩
    show i ∈ ((View.whole main_v3_3).slice (win1_5.rect t)).set
    rw [View.set_slice_whole, Rect.mem_set_unit]
    intro a
    match a with
    | ⟨0, _⟩ =>
      show win1_5.index t 0 * 1 ≤ (i 0 : Nat) ∧ (i 0 : Nat) < win1_5.index t 0 * 1 + 1
      rw [(index1_5 t).1]; omega
    | ⟨1, _⟩ =>
      show win1_5.index t 1 * 10000 ≤ (i 1 : Nat) ∧ (i 1 : Nat) < win1_5.index t 1 * 10000 + 10000
      rw [(index1_5 t).2]; omega

end Cert.KernelIdeal.Value

end
-- ==== Proof.Region2.lean ====
/-
  The array the third region leaves: the normalized adjacency, from the activations, the thresholds and the sums it reads.
-/
module

public import proofs.«01_k».proof.Proof.PassA

@[expose] public section

noncomputable section

open Idealize.ShloMosaic Idealize.ShloMosaic.TcCoe Idealize.ShloMosaic.ValueIdx Idealize.SL.Sem
open Idealize.ShloMosaic.Pipeline (Dat)

namespace Cert.KernelIdeal.Value

open Cert.KernelIdeal Cert.KernelIdeal.Gen Cert.Graph

/-! ## The payloads at an index -/

theorem lit_half : Ideal.ofBits .f32 0x3F000000#32 = ((2⁻¹ : ℝ) : EReal) := by
  simp [Ideal.ofBits, Ideal.ieee, -EReal.coe_mul]; norm_num

theorem lit_nodes : Ideal.ofBits .f32 0x461C4000#32 = 10000 := by
  have h : ((10000 : ℝ) : EReal) = 10000 := rfl
  rw [← h]
  simp [Ideal.ofBits, Ideal.ieee, -EReal.coe_mul]; norm_num

/-- A comparison widened to a count is one or zero. -/
theorem count_ge (a b : EReal) :
    ((((BitVec.ofBool (decide (b ≤ a))).zeroExtend 32).toInt : ℝ) : EReal) = if b ≤ a then 1 else 0 := by
  by_cases h : b ≤ a <;> simp [h]

/-- The block of halved edges, at an index. -/
theorem pairs_apply (e : Vec Ideal S80x10000 .f32) (tr : Vec Ideal S80x1 .f32) (tc : Vec Ideal S1x10000 .f32) (p : Fin 80) (j : Fin 10000) :
    (k2_pay3 e tr tc (ix2 p j) : EReal) = (if tr (ix2 p 0) ≤ row e p j then 1 else 0) + (if tc (ix2 0 j) ≤ row e p j then 1 else 0) := by
  unfold k2_pay3 k2_pay2
  rw [shapeCast_self, shapeCast_self, shapeCast_self, addf_apply]
  refine congrArg₂ (· + ·) ?_ ?_
  · refine (count_ge (e (ix2 p j)) _).trans ?_
    rw [broadcastTo_apply tr _ (ix2 p j) (ix2 p 0) (fun a => by fin_cases a <;> rfl)]
    rfl
  · refine (count_ge (e (ix2 p j)) _).trans ?_
    rw [broadcastTo_apply tc _ (ix2 p j) (ix2 0 j) (fun a => by fin_cases a <;> rfl)]
    rfl

theorem bg_lit : Ideal.exp (Ideal.ofBits .f32 0xC0C00000#32) = bg := by
  rw [lit_negSix, exp_coe]; rfl

/-- The degrees of the columns, at an index. -/
theorem degCol_apply (r k : Vec Ideal S1x10000 .f32) (j : Fin 10000) :
    (k2_pay4 r k (ix2 0 j) : EReal) = bg * 10000 + ((2⁻¹ : ℝ) : EReal) * (r (ix2 0 j) + k (ix2 0 j)) := by
  unfold k2_pay4
  rw [shapeCast_self, shapeCast_self]
  show Ideal.exp (Ideal.ofBits .f32 0xC0C00000#32) * Ideal.ofBits .f32 0x461C4000#32
    + Ideal.ofBits .f32 0x3F000000#32 * ((r (ix2 0 j) : EReal) + k (ix2 0 j)) = _
  rw [bg_lit, lit_half, lit_nodes]

/-- The roots of the degrees of the rows, at an index. -/
theorem rootRow_apply (r k : Vec Ideal S80x1 .f32) (p : Fin 80) :
    (k2_pay5 r k (ix2 p 0) : EReal) = Ideal.sqrt (bg * 10000 + ((2⁻¹ : ℝ) : EReal) * (r (ix2 p 0) + k (ix2 p 0))) := by
  unfold k2_pay5
  rw [shapeCast_self, shapeCast_self]
  show Ideal.sqrt (Ideal.exp (Ideal.ofBits .f32 0xC0C00000#32) * Ideal.ofBits .f32 0x461C4000#32
    + Ideal.ofBits .f32 0x3F000000#32 * ((r (ix2 p 0) : EReal) + k (ix2 p 0))) = _
  rw [bg_lit, lit_half, lit_nodes]

/-- The block the region's body stores, at an index. -/
theorem norm_apply (e : Vec Ideal S80x10000 .f32) (tr : Vec Ideal S80x1 .f32) (tc : Vec Ideal S1x10000 .f32)
    (rr cr : Vec Ideal S80x1 .f32) (rc cc : Vec Ideal S1x10000 .f32) (p : Fin 80) (j : Fin 10000) :
    (k2_pay1 (k2_pay2 e) (k2_pay3 e tr tc) (k2_pay4 rc cc) (k2_pay5 rr cr) (Scalar.ofBits .f32 0x2EDBE6FF#32) (ix2 p j) : EReal)
      = (scale (rr (ix2 p 0)) (cr (ix2 p 0)) * scale (rc (ix2 0 j)) (cc (ix2 0 j)))
        * halves (row e p j) (tr (ix2 p 0)) (tc (ix2 0 j)) := by
  have h3 := pairs_apply e tr tc p j
  have h4 := degCol_apply rc cc j
  have h5 := rootRow_apply rr cr p
  have h2 : (k2_pay2 e (ix2 p j) : EReal) = row e p j := by unfold k2_pay2; rw [shapeCast_self]; rfl
  generalize k2_pay3 e tr tc = A3 at h3 ⊢
  generalize k2_pay4 rc cc = A4 at h4 ⊢
  generalize k2_pay5 rr cr = A5 at h5 ⊢
  generalize k2_pay2 e = A2 at h2 ⊢
  unfold k2_pay1
  rw [mulf_apply, mulf_apply]
  refine congrArg₂ (· * ·) (congrArg₂ (· * ·) ?_ ?_) ?_
  · rw [broadcastTo_apply _ _ (ix2 p j) (ix2 p 0) (fun a => by fin_cases a <;> rfl)]
    show Ideal.div (Ideal.ofBits .f32 0x3F800000#32) (A5 (ix2 p 0) + Ideal.ofBits .f32 0x2EDBE6FF#32) = _
    rw [h5, lit_one]; rfl
  · rw [broadcastTo_apply _ _ (ix2 p j) (ix2 0 j) (fun a => by fin_cases a <;> rfl)]
    show Ideal.div (Ideal.ofBits .f32 0x3F800000#32) (Ideal.sqrt (A4 (ix2 0 j)) + Ideal.ofBits .f32 0x2EDBE6FF#32) = _
    rw [h4, lit_one]; rfl
  · show Ideal.exp (Ideal.ofBits .f32 0xC0C00000#32) + (Ideal.ofBits .f32 0x3F000000#32 * A2 (ix2 p j)) * A3 (ix2 p j) = _
    rw [h3, h2, bg_lit, lit_half]; rfl

/-! ## The blocks the region reads and writes -/

theorem index2_0 : ∀ t : Fin grid2.N, win2_0.index t 0 = t.val ∧ win2_0.index t 1 = 0 := by decide +kernel
theorem index2_1 : ∀ t : Fin grid2.N, win2_1.index t 0 = t.val ∧ win2_1.index t 1 = 0 := by decide +kernel
theorem index2_2 : ∀ t : Fin grid2.N, win2_2.index t 0 = 0 ∧ win2_2.index t 1 = 0 := by decide +kernel
theorem index2_3 : ∀ t : Fin grid2.N, win2_3.index t 0 = t.val ∧ win2_3.index t 1 = 0 := by decide +kernel
theorem index2_4 : ∀ t : Fin grid2.N, win2_4.index t 0 = t.val ∧ win2_4.index t 1 = 0 := by decide +kernel
theorem index2_5 : ∀ t : Fin grid2.N, win2_5.index t 0 = 0 ∧ win2_5.index t 1 = 0 := by decide +kernel
theorem index2_6 : ∀ t : Fin grid2.N, win2_6.index t 0 = 0 ∧ win2_6.index t 1 = 0 := by decide +kernel
theorem index2_7 : ∀ t : Fin grid2.N, win2_7.index t 0 = t.val ∧ win2_7.index t 1 = 0 := by decide +kernel

theorem N2_lt (t : Fin cfg2.N) : t.val < 125 := lt_of_lt_of_eq t.isLt (by decide +kernel)

/-- Row `p` of block `t` of 80 rows. -/
def rowAt (t : Fin cfg2.N) (p : Fin 80) : Fin 10000 := ⟨80 * t.val + p.val, by have := N2_lt t; have := p.isLt; omega⟩

variable (V : (c : Dev nD) → (b : Ref sig .tc) → Buf (Elt Ideal) ((c : Thread nD τ).loc b)) (c : Dev nD)

theorem iblk2_0_apply (t : Fin cfg2.N) (p : Fin 80) (j : Fin 10000) :
    (iblk2 V c 0 t : Vec Ideal S80x10000 .f32) (ix2 p j) = V c main_v3_0 (ix2 (rowAt t p) j) := by
  unfold iblk2
  rw [View.read_apply]
  show V c main_v3_0 _ = V c main_v3_0 _
  congr 1
  funext a
  apply Fin.ext
  match a with
  | ⟨0, _⟩ => show win2_0.index t 0 * 80 + 1 * p.val = 80 * t.val + p.val; rw [(index2_0 t).1]; omega
  | ⟨1, _⟩ => show win2_0.index t 1 * 10000 + 1 * j.val = j.val; rw [(index2_0 t).2]; omega

theorem iblk2_1_apply (t : Fin cfg2.N) (p : Fin 80) :
    (iblk2 V c 1 t : Vec Ideal S80x1 .f32) (ix2 p 0) = V c main_v3_1 (ix2 (rowAt t p) 0) := by
  unfold iblk2
  rw [View.read_apply]
  show V c main_v3_1 _ = V c main_v3_1 _
  congr 1
  funext a
  apply Fin.ext
  match a with
  | ⟨0, _⟩ => show win2_1.index t 0 * 80 + 1 * p.val = 80 * t.val + p.val; rw [(index2_1 t).1]; omega
  | ⟨1, _⟩ => show win2_1.index t 1 * 1 + 1 * 0 = 0; rw [(index2_1 t).2]

theorem iblk2_2_apply (t : Fin cfg2.N) (j : Fin 10000) :
    (iblk2 V c 2 t : Vec Ideal S1x10000 .f32) (ix2 0 j) = V c main_v4 (ix2 0 j) := by
  unfold iblk2
  rw [View.read_apply]
  show V c main_v4 _ = V c main_v4 _
  congr 1
  funext a
  apply Fin.ext
  match a with
  | ⟨0, _⟩ => show win2_2.index t 0 * 1 + 1 * 0 = 0; rw [(index2_2 t).1]
  | ⟨1, _⟩ => show win2_2.index t 1 * 10000 + 1 * j.val = j.val; rw [(index2_2 t).2]; omega

theorem iblk2_3_apply (t : Fin cfg2.N) (p : Fin 80) :
    (iblk2 V c 3 t : Vec Ideal S80x1 .f32) (ix2 p 0) = V c main_v3_2 (ix2 (rowAt t p) 0) := by
  unfold iblk2
  rw [View.read_apply]
  show V c main_v3_2 _ = V c main_v3_2 _
  congr 1
  funext a
  apply Fin.ext
  match a with
  | ⟨0, _⟩ => show win2_3.index t 0 * 80 + 1 * p.val = 80 * t.val + p.val; rw [(index2_3 t).1]; omega
  | ⟨1, _⟩ => show win2_3.index t 1 * 1 + 1 * 0 = 0; rw [(index2_3 t).2]

theorem iblk2_4_apply (t : Fin cfg2.N) (p : Fin 80) :
    (iblk2 V c 4 t : Vec Ideal S80x1 .f32) (ix2 p 0) = V c main_v6 (ix2 (rowAt t p) 0) := by
  unfold iblk2
  rw [View.read_apply]
  show V c main_v6 _ = V c main_v6 _
  congr 1
  funext a
  apply Fin.ext
  match a with
  | ⟨0, _⟩ => show win2_4.index t 0 * 80 + 1 * p.val = 80 * t.val + p.val; rw [(index2_4 t).1]; omega
  | ⟨1, _⟩ => show win2_4.index t 1 * 1 + 1 * 0 = 0; rw [(index2_4 t).2]

theorem iblk2_5_apply (t : Fin cfg2.N) (j : Fin 10000) :
    (iblk2 V c 5 t : Vec Ideal S1x10000 .f32) (ix2 0 j) = V c main_v5 (ix2 0 j) := by
  unfold iblk2
  rw [View.read_apply]
  show V c main_v5 _ = V c main_v5 _
  congr 1
  funext a
  apply Fin.ext
  match a with
  | ⟨0, _⟩ => show win2_5.index t 0 * 1 + 1 * 0 = 0; rw [(index2_5 t).1]
  | ⟨1, _⟩ => show win2_5.index t 1 * 10000 + 1 * j.val = j.val; rw [(index2_5 t).2]; omega

theorem iblk2_6_apply (t : Fin cfg2.N) (j : Fin 10000) :
    (iblk2 V c 6 t : Vec Ideal S1x10000 .f32) (ix2 0 j) = V c main_v3_3 (ix2 0 j) := by
  unfold iblk2
  rw [View.read_apply]
  show V c main_v3_3 _ = V c main_v3_3 _
  congr 1
  funext a
  apply Fin.ext
  match a with
  | ⟨0, _⟩ => show win2_6.index t 0 * 1 + 1 * 0 = 0; rw [(index2_6 t).1]
  | ⟨1, _⟩ => show win2_6.index t 1 * 10000 + 1 * j.val = j.val; rw [(index2_6 t).2]; omega

/-- The normalized adjacency, from the arrays the region reads. -/
def adj2 (i j : Fin 10000) : EReal :=
  (scale (V c main_v3_2 (ix2 i 0)) (V c main_v6 (ix2 i 0)) * scale (V c main_v5 (ix2 0 j)) (V c main_v3_3 (ix2 0 j)))
    * halves (V c main_v3_0 (ix2 i j)) (V c main_v3_1 (ix2 i 0)) (V c main_v4 (ix2 0 j))

/-- The array of the normalized adjacency. -/
def arrN : Buf (Elt Ideal) ((c : Thread nD τ).loc main_v7) := fun x => adj2 V c (x 0) (x 1)

theorem out2_7_eq (x0 : Vec Ideal S80x10000 .f32) (x1 : Vec Ideal S80x1 .f32) (x2 : Vec Ideal S1x10000 .f32) (x3 x4 : Vec Ideal S80x1 .f32) (x5 x6 : Vec Ideal S1x10000 .f32) :
    out2_7 x0 x1 x2 x3 x4 x5 x6
      = k2_pay1 (k2_pay2 x0) (k2_pay3 x0 x1 x2) (k2_pay4 x5 x6) (k2_pay5 x3 x4) (Scalar.ofBits .f32 0x2EDBE6FF#32) := by
  unfold out2_7
  rw [View.canon_unit_zero hz, View.ld_unit_zero hz, View.ld_unit_zero hz, View.ld_unit_zero hz, View.ld_unit_zero hz, View.ld_unit_zero hz,
    View.ld_unit_zero hz, View.ld_unit_zero hz]

/-- The block the region leaves at a grid point. -/
def blockN (t : Fin cfg2.N) : Vec Ideal S80x10000 .f32 :=
  out2_7 (F := Ideal) (iblk2 V c 0 t) (iblk2 V c 1 t) (iblk2 V c 2 t) (iblk2 V c 3 t) (iblk2 V c 4 t) (iblk2 V c 5 t) (iblk2 V c 6 t)

theorem blockN_apply (t : Fin cfg2.N) (p : Fin 80) (j : Fin 10000) : (blockN V c t (ix2 p j) : EReal) = adj2 V c (rowAt t p) j := by
  unfold blockN
  rw [out2_7_eq]
  refine (norm_apply _ _ _ _ _ _ _ p j).trans ?_
  unfold adj2 row
  rw [iblk2_0_apply V c t p j, iblk2_1_apply V c t p, iblk2_2_apply V c t j, iblk2_3_apply V c t p, iblk2_4_apply V c t p,
    iblk2_5_apply V c t j, iblk2_6_apply V c t j]

theorem flushed2_7 (t : Fin cfg2.N) : (dat2 V c).flushed 7 t = ((cfg2.win 7).blk t).view.read (Elt Ideal) (arrN V c) := by
  show (cfg2.win 7).cut (grid2.coords t) ((dat2 V c).after 7 t) = _
  rw [after2_7]
  funext j
  rw [View.read_apply]
  have e0 : (((cfg2.win 7).blk t).view.emb j 0).val = 80 * t.val + (j 0).val := by
    show win2_7.index t 0 * 80 + 1 * (j 0).val = _; rw [(index2_7 t).1]; omega
  have e1 : (((cfg2.win 7).blk t).view.emb j 1).val = (j 1).val := by
    show win2_7.index t 1 * 10000 + 1 * (j 1).val = _; rw [(index2_7 t).2]; omega
  have hj : j = (ix2 (j 0) (j 1) : S80x10000.Idx) := funext fun a => by fin_cases a <;> rfl
  show (blockN V c t j : EReal) = adj2 V c (((cfg2.win 7).blk t).view.emb j 0) (((cfg2.win 7).blk t).view.emb j 1)
  rw [show ((cfg2.win 7).blk t).view.emb j 0 = rowAt t (j 0) from Fin.ext e0, show ((cfg2.win 7).blk t).view.emb j 1 = j 1 from Fin.ext e1]
  exact (congrArg (blockN V c t) hj).trans (blockN_apply V c t (j 0) (j 1))

/-- The third region leaves the array of the normalized adjacency. -/
theorem final2_7 : (dat2 V c).arrAt 7 cfg2.N = arrN V c :=
  (dat2 V c).arrAt_eq_of_cover 7 (arrN V c) (fun t _ => flushed2_7 V c t) <| fun i => by
    have h0 : (i 0 : Nat) < 10000 := (i 0).isLt
    have h1 : (i 1 : Nat) < 10000 := (i 1).isLt
    let t : Fin cfg2.N := ⟨(i 0).val / 80, by rw [show cfg2.N = 125 from by decide +kernel]; omega⟩
    have ht : t.val = (i 0).val / 80 := rfl
    refine ⟨t, flush2_7 t, ?_⟩
    show i ∈ ((View.whole main_v7).slice (win2_7.rect t)).set
    rw [View.set_slice_whole, Rect.mem_set_unit]
    intro a
    match a with
    | ⟨0, _⟩ =>
      show win2_7.index t 0 * 80 ≤ (i 0 : Nat) ∧ (i 0 : Nat) < win2_7.index t 0 * 80 + 80
      rw [(index2_7 t).1]; omega
    | ⟨1, _⟩ =>
      show win2_7.index t 1 * 10000 ≤ (i 1 : Nat) ∧ (i 1 : Nat) < win2_7.index t 1 * 10000 + 10000
      rw [(index2_7 t).2]; omega

end Cert.KernelIdeal.Value

end
-- ==== Proof.Run.lean ====
/-
  The run of the kernel's program over the extended reals: the array it leaves is the normalized adjacency of the rows its
  first region computes, and the arguments end as launched.
-/
module

public import proofs.«01_k».proof.Proof.Region0
public import proofs.«01_k».proof.Proof.Region1
public import proofs.«01_k».proof.Proof.Region2
public import Idealize.ShloMosaic.Lib.Claim

@[expose] public section

noncomputable section

open Idealize.ShloMosaic Idealize.ShloMosaic.TcCoe Idealize.ShloMosaic.ValueIdx Idealize.SL.Sem
open Idealize.ShloMosaic.Pipeline (Dat)

namespace Cert.KernelIdeal.Value

open Cert.KernelIdeal Cert.KernelIdeal.Gen Cert.Graph

variable (m : (ℓ : Loc nD τ sig) → Buf (Elt Ideal) ℓ) (ρ : Dev nD → PrngReg) (c : Dev nD)

/-- The normalized rows of the arguments. -/
def rows (i : Fin 10000) : Fin 512 → EReal :=
  embed (fun l => m ((c : Thread nD τ).loc main_arg0) (ix2 i l)) (fun l k => m ((c : Thread nD τ).loc main_arg1) (ix2 l k))
    (fun k => m ((c : Thread nD τ).loc main_arg2) (ix1 k)) (fun l k => m ((c : Thread nD τ).loc main_arg3) (ix2 l k))
    (fun k => m ((c : Thread nD τ).loc main_arg4) (ix1 k))

/-! ## Up to the first region's exit -/

theorem V1_v0 (k : Fin 512) : V1 m ρ c main_v0 (ix2 0 k) = m ((c : Thread nD τ).loc main_arg2) (ix1 k) := by
  show StableHlo.after hostOps0 (W0 m ρ c) (Proc.devRef .tc main_v0) _ = _
  rw [show StableHlo.after hostOps0 (W0 m ρ c) (Proc.devRef .tc main_v0)
      = shapeCast S1x512 (m ((c : Thread nD τ).loc main_arg2)) shapeCasts_S512_S1x512 from by
    unfold hostOps0; after_results; rfl]
  exact shapeCast_apply _ _ _ (ix1 k) (by rw [Shape.rowMajor_val_one, Shape.rowMajor_val_two]; show k.val = 0 * 512 + k.val; omega)

theorem V1_v1 (k : Fin 512) : V1 m ρ c main_v1 (ix2 0 k) = m ((c : Thread nD τ).loc main_arg4) (ix1 k) := by
  show StableHlo.after hostOps0 (W0 m ρ c) (Proc.devRef .tc main_v1) _ = _
  rw [show StableHlo.after hostOps0 (W0 m ρ c) (Proc.devRef .tc main_v1)
      = shapeCast S1x512 (m ((c : Thread nD τ).loc main_arg4)) shapeCasts_S512_S1x512 from by
    unfold hostOps0; after_results; rfl]
  exact shapeCast_apply _ _ _ (ix1 k) (by rw [Shape.rowMajor_val_one, Shape.rowMajor_val_two]; show k.val = 0 * 512 + k.val; omega)

theorem V1_arg (a : Ref sig .tc) (ha : a ∈ argRefs) : V1 m ρ c a = m ((c : Thread nD τ).loc a) := W1_args m ρ c a ha

theorem emb0_eq : emb0 (V1 m ρ) c = rows m c := by
  funext i
  unfold emb0 rows
  rw [funext fun k => V1_v0 m ρ c k, funext fun k => V1_v1 m ρ c k, V1_arg m ρ c main_arg0 (by decide), V1_arg m ρ c main_arg1 (by decide),
    V1_arg m ρ c main_arg3 (by decide)]

theorem V2_v2 : V2 m ρ c main_v2 = arrZ (V1 m ρ) c := (W2_arr m ρ c 5).trans (final0_5 (V1 m ρ) c)

theorem Z_eq : Z (V2 m ρ) c = rows m c := by
  rw [← emb0_eq m ρ c]
  funext i k
  show V2 m ρ c main_v2 (ix2 i k) = _
  rw [V2_v2]
  rfl

/-! ## Up to the third region's entry -/

theorem V3_0 : V3 m ρ c main_v3_0 = arrE (V2 m ρ) c := (W3_arr m ρ c 2).trans (final1_2 (V2 m ρ) c)
theorem V3_1 : V3 m ρ c main_v3_1 = arrT (V2 m ρ) c := (W3_arr m ρ c 3).trans (final1_3 (V2 m ρ) c)
theorem V3_2 : V3 m ρ c main_v3_2 = arrR (V2 m ρ) c := (W3_arr m ρ c 4).trans (final1_4 (V2 m ρ) c)
theorem V3_3 : V3 m ρ c main_v3_3 = arrC (V2 m ρ) c := (W3_arr m ρ c 5).trans (final1_5 (V2 m ρ) c)

theorem V4_v4 (j : Fin 10000) : V4 m ρ c main_v4 (ix2 0 j) = V3 m ρ c main_v3_1 (ix2 j 0) := by
  show StableHlo.after hostOps2 (W3 m ρ c) (Proc.devRef .tc main_v4) _ = _
  rw [show StableHlo.after hostOps2 (W3 m ρ c) (Proc.devRef .tc main_v4)
      = transpose S1x10000 [1, 0] (V3 m ρ c main_v3_1) transposes_S10000x1_S1x10000_1_0 from by
    unfold hostOps2; after_results]
  exact transpose_apply [1, 0] _ _ _ (ix2 j 0) (fun b => by fin_cases b <;> rfl)

theorem V4_v5 (j : Fin 10000) : V4 m ρ c main_v5 (ix2 0 j) = V3 m ρ c main_v3_2 (ix2 j 0) := by
  show StableHlo.after hostOps2 (W3 m ρ c) (Proc.devRef .tc main_v5) _ = _
  rw [show StableHlo.after hostOps2 (W3 m ρ c) (Proc.devRef .tc main_v5)
      = transpose S1x10000 [1, 0] (V3 m ρ c main_v3_2) transposes_S10000x1_S1x10000_1_0 from by
    unfold hostOps2; after_results]
  exact transpose_apply [1, 0] _ _ _ (ix2 j 0) (fun b => by fin_cases b <;> rfl)

theorem V4_v6 (i : Fin 10000) : V4 m ρ c main_v6 (ix2 i 0) = V3 m ρ c main_v3_3 (ix2 0 i) := by
  show StableHlo.after hostOps2 (W3 m ρ c) (Proc.devRef .tc main_v6) _ = _
  rw [show StableHlo.after hostOps2 (W3 m ρ c) (Proc.devRef .tc main_v6)
      = transpose S10000x1 [1, 0] (V3 m ρ c main_v3_3) transposes_S1x10000_S10000x1_1_0 from by
    unfold hostOps2; after_results]
  exact transpose_apply [1, 0] _ _ _ (ix2 0 i) (fun b => by fin_cases b <;> rfl)

theorem V4_kept (r : Ref sig .tc) (h : r ∉ hostOps2_W) : V4 m ρ c r = V3 m ρ c r := W4_of m ρ c r h

/-! ## The result -/

/-- The normalized adjacency of the arguments' rows, as an array. -/
def answer : Buf (Elt Ideal) ((c : Thread nD τ).loc main_v7) := fun x => adjacency (rows m c) (x 0) (x 1)

theorem adj2_eq (i j : Fin 10000) : adj2 (V4 m ρ) c i j = adjacency (rows m c) i j := by
  unfold adj2
  rw [V4_v4, V4_v5, V4_v6, V4_kept m ρ c main_v3_0 (by decide), V4_kept m ρ c main_v3_1 (by decide),
    V4_kept m ρ c main_v3_2 (by decide), V4_kept m ρ c main_v3_3 (by decide), V3_0, V3_1, V3_2, V3_3]
  rw [← Z_eq m ρ c]
  rfl

theorem W5_main_v7 : W5 m ρ c (Proc.devRef .tc main_v7) = answer m c := by
  refine (W5_arr m ρ c 7).trans ((final2_7 (V4 m ρ) c).trans ?_)
  funext x
  exact adj2_eq m ρ c (x 0) (x 1)

open Idealize.SL Idealize.SL.RA Idealize.SL.BI
open scoped Idealize.SL.BI
open Idealize.SL.BI.BIBase Idealize.SL.BI.Laws Idealize.SL.ProofMode Idealize.SL.Sem
open Idealize.ShloMosaic.Tactic Idealize.ShloMosaic.Rounds

local notation "𝕄" => MT nD τ sig Unit (Elt Ideal) ℕ (UR sig nD τ) ℕ

-- the launch's implicit arguments are found by unfolding plain definitions in a metavariable's type
set_option backward.isDefEq.respectTransparency.types false in
/-- Every weakly fair run of the program ends with the normalized adjacency in its result and its arguments as launched. -/
theorem run : θ_run defs (onTc (τ := τ) (main (F := Ideal))) ⟨m, fun _ => 0, ρ⟩ (fun r => ∀ c : Dev nD,
      r.2.mem ((c.tc : Thread nD τ).loc main_v7) = answer m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => fun c =>
      ⟨(h c _ (mem_uc main_v7 (by decide))).trans (W5_main_v7 m ρ c),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c)⟩)

end Cert.KernelIdeal.Value

end
-- ==== Proof.Rank.lean ====
/-
  The positions of a row in falling order of its entries, and the top entries of a matrix's rows read by them.
-/
module

public import proofs.«01_k».proof.Proof.Maths
public import Idealize.ShloMosaic.Lib.SortFacts
public import Idealize.ShloMosaic.Lib.Routing.OpsPair
public import Idealize.ShloMosaic.Lib.Pipeline.Value

@[expose] public section

set_option maxRecDepth 100000

noncomputable section

open Idealize.ShloMosaic Idealize.ShloMosaic.ValueIdx

namespace Cert.Graph

/-- The positions of a row's entries, greatest entry first. -/
def order {n : ℕ} (s : Fin n → EReal) : Fin n → Fin n := sortedFrom fun k k' => decide (s k' < s k)

theorem before_iff (x y : EReal) :
    (FloatOps.cmpfTotal (F := Ideal) (φ := .f32) .gt x y == 1#1) = decide (y < x) := by
  show (BitVec.ofBool (decide (y < x)) == 1#1) = decide (y < x)
  cases decide (y < x) <;> rfl

/-- Every position of the row has a rank. -/
theorem order_surj {n : ℕ} (s : Fin n → EReal) : Function.Surjective (order s) := sortedFrom_surjective _

/-- The entries taken in that order do not rise. -/
theorem order_anti {n : ℕ} (s : Fin n → EReal) (a b : Fin n) (h : a ≤ b) : s (order s b) ≤ s (order s a) := by
  rcases eq_or_lt_of_le h with rfl | h
  · exact le_rfl
  have key := sortedFrom_noInversion (fun k k' => decide (s k' < s k)) (fun k k' => decide (s k' < s k))
    (fun a b => by simp only [decide_eq_true_eq, decide_eq_false_iff_not, not_lt]; exact le_of_lt)
    (fun a b h => h)
    (fun {a b c} => by simp only [decide_eq_false_iff_not, not_lt]; exact fun h h' => le_trans h h') a b h
  simp only [decide_eq_false_iff_not, not_lt] at key
  exact key

variable {M N k : ℕ} (x : (⟨2, ![M, N]⟩ : Shape).Idx → EReal)
  (h : (⟨2, ![M, N]⟩ : Shape).Slices (fun _ => 0) ⟨2, ![M, k]⟩) (i : Fin M) (a : Fin k) (ha : a.val < N)

/-- Entry `k'` of the row through `(i, q)` is entry `(i, k')`. -/
theorem along_eq (q k' : Fin N) :
    Shape.Idx.along (s := ⟨2, ![M, N]⟩) (ix2 i q) (1 : Fin 2) k' = ix2 i k' := by
  unfold Shape.Idx.along
  funext b
  fin_cases b
  · rfl
  · rfl

/-- The order the sort puts a row's positions in, read at one rank. -/
theorem sorted_eq (g : Fin N → BitVec 32) (q : Fin N) :
    sortedFrom (fun k k' : Fin N =>
        (fun l r : EReal × BitVec 32 => FloatOps.cmpfTotal (F := Ideal) (φ := .f32) .gt l.1 r.1)
          (x (Shape.Idx.along (s := ⟨2, ![M, N]⟩) (ix2 i q) (1 : Fin 2) k), g k)
          (x (Shape.Idx.along (s := ⟨2, ![M, N]⟩) (ix2 i q) (1 : Fin 2) k'), g k') == 1#1) q
      = order (fun j => x (ix2 i j)) q := by
  unfold order
  refine congrArg (fun f => sortedFrom f q) (funext fun b => funext fun c => ?_)
  rw [along_eq, along_eq]
  exact before_iff _ _

/-- The values of the top entries: entry `a` of row `i` is the row's entry of rank `a`. -/
theorem top_values :
    (Host.topK ⟨2, ![M, k]⟩ 1 (FloatOps.cmpfTotal (F := Ideal) (φ := .f32) .gt) x h).1 (ix2 i a)
      = x (ix2 i (order (fun j => x (ix2 i j)) ⟨a, ha⟩)) := by
  unfold Host.topK
  dsimp only
  rw [extractStridedSlice_apply _ _ h (ix2 i a) (ix2 i ⟨a, ha⟩) (fun b => match b with
    | ⟨0, _⟩ => (Nat.zero_add _).symm
    | ⟨1, _⟩ => (Nat.zero_add _).symm)]
  unfold Host.sort2
  rw [dif_pos (show 1 < (⟨2, ![M, N]⟩ : Shape).rank from Nat.one_lt_two)]
  refine (congrArg x (along_eq i ⟨a, ha⟩ _)).trans ?_
  exact congrArg (fun q => x (ix2 i q)) (sorted_eq x i (fun k => iotaInDim ⟨2, ![M, N]⟩ 32 (1 : Fin 2)
    (Shape.Idx.along (s := ⟨2, ![M, N]⟩) (ix2 i ⟨a, ha⟩) (1 : Fin 2) k)) ⟨a, ha⟩)

/-- The positions of the top entries: entry `a` of row `i` is the word of the position of rank `a`. -/
theorem top_indices :
    (Host.topK ⟨2, ![M, k]⟩ 1 (FloatOps.cmpfTotal (F := Ideal) (φ := .f32) .gt) x h).2 (ix2 i a)
      = BitVec.ofNat 32 (order (fun j => x (ix2 i j)) ⟨a, ha⟩).val := by
  unfold Host.topK
  dsimp only
  rw [extractStridedSlice_apply _ _ h (ix2 i a) (ix2 i ⟨a, ha⟩) (fun b => match b with
    | ⟨0, _⟩ => (Nat.zero_add _).symm
    | ⟨1, _⟩ => (Nat.zero_add _).symm)]
  unfold Host.sort2
  rw [dif_pos (show 1 < (⟨2, ![M, N]⟩ : Shape).rank from Nat.one_lt_two)]
  dsimp only
  rw [dif_pos (show 1 < (⟨2, ![M, N]⟩ : Shape).rank from Nat.one_lt_two)]
  exact congrArg (fun q : Fin N => BitVec.ofNat 32 q.val) (sorted_eq x i (fun k => iotaInDim ⟨2, ![M, N]⟩ 32 (1 : Fin 2)
    (Shape.Idx.along (s := ⟨2, ![M, N]⟩) (ix2 i ⟨a, ha⟩) (1 : Fin 2) k)) ⟨a, ha⟩)

attribute [irreducible] order

end Cert.Graph
-- ==== Proof.Separated.lean ====
/-
  The precondition, read off its printed predicate: every row's top entries fall strictly, and at most six of the
  entries at or above a row's smallest kept one lie in any lane.
-/
module

public import proofs.«01_k».proof.Pre_separated
public import proofs.«01_k».proof.Proof.Rank
public import proofs.«01_k».proof.Proof.Gen.ReferenceIdeal.Read
public import proofs.«01_k».proof.Proof.Block
public import Idealize.ShloMosaic.Lib.KernelVsHost

@[expose] public section

noncomputable section

open Idealize.ShloMosaic Idealize.ShloMosaic.TcCoe Idealize.ShloMosaic.ValueIdx

namespace Cert.Pre_separated

open Cert.Graph

/-- The shape relations the predicate's operations take. -/
instance facts : Facts where
  bcast_S512_S1x512_1 := by decide
  bcast_S1x512_S10000x512_0_1 := by decide
  bcast_S_S10000x512 := by decide
  reducesTo_S10000x512_S10000_d1 := by decide
  h_S_ := by decide
  bcast_S10000_S10000x1_0 := by decide
  bcast_S_S10000x1 := by decide
  bcast_S10000x1_S10000x512_0_1 := by decide
  transposes_S10000x512_S512x10000_1_0 := by decide
  sliceFits_S10000x10000_S10000x22 := by decide
  slices_S10000x22_S10000x21_0_0 := by decide
  slices_S10000x22_S10000x21_0_1 := by decide
  slices_S10000x22_S10000x1_0_20 := by decide
  bcast_S10000x1_S10000x10000_0_1 := by decide
  pads_S10000x10000_S10000x10112_000_01120 := by decide
  shapeCasts_S10000x10112_S10000x79x128 := by decide
  reducesTo_S10000x79x128_S10000x128_d1 := by decide
  bcast_S_S10000x128 := by decide
  dot_S10000x512_S512x512_S10000x512_1_0_0_1_n_n_wf := by decide
  dot_S10000x512_S512x10000_S10000x10000_1_0_0_1_n_n_wf := by decide

/-- The predicate is its tail over the similarities, which are those of the problem's mathematics. -/
theorem fn_eq (x0 : FVec Ideal S10000x512 .f32) (x1 : FVec Ideal S512x512 .f32) (x2 : FVec Ideal S512 .f32)
    (x3 : FVec Ideal S512x512 .f32) (x4 : FVec Ideal S512 .f32) :
    fn (F := Ideal) x0 x1 x2 x3 x4
      = fn_part1 (F := Ideal) (Cert.ReferenceIdeal.Read.val_main_v15 (F := Ideal) x0 x1 x2 x3 x4)
          (Host.topK S10000x22 1 (FloatOps.cmpfTotal (F := Ideal) (φ := .f32) .gt)
            (Cert.ReferenceIdeal.Read.val_main_v15 (F := Ideal) x0 x1 x2 x3 x4) Facts.sliceFits_S10000x10000_S10000x22).1 := rfl

section Tail

variable (S : FVec Ideal S10000x10000 .f32) (top : FVec Ideal S10000x22 .f32)

/-- A strict comparison that holds. -/
theorem gt_of (x y : EReal) (h : FloatOps.cmpf (F := Ideal) (φ := .f32) .ogt x y = 1#1) : y < x := by
  have h' : BitVec.ofBool (decide (y < x)) = 1#1 := h
  by_contra hn
  rw [decide_eq_false hn] at h'
  exact absurd h' (by decide)

/-- A comparison that holds. -/
theorem le_of (x y : EReal) (h : FloatOps.cmpf (F := Ideal) (φ := .f32) .ole x y = 1#1) : x ≤ y := by
  have h' : BitVec.ofBool (decide (x ≤ y)) = 1#1 := h
  by_contra hn
  rw [decide_eq_false hn] at h'
  exact absurd h' (by decide)

/-- The first result all ones: the top entries of a row fall strictly. -/
theorem strict_of (h : (fn_part1 (F := Ideal) S top).1 = fun _ => 1#1) (i : Fin 10000) (a : Fin 21) :
    (top (ix2 i ⟨a.val + 1, by omega⟩) : EReal) < top (ix2 i ⟨a.val, by omega⟩) := by
  have h' := congrFun h (ix2 i a)
  have e0 : extractStridedSlice S10000x21 ![0, 0] top Facts.slices_S10000x22_S10000x21_0_0 (ix2 i a) = top (ix2 i ⟨a.val, by omega⟩) :=
    extractStridedSlice_apply _ top _ (ix2 i a) (ix2 i ⟨a.val, by omega⟩) (fun b => match b with
      | ⟨0, _⟩ => (Nat.zero_add _).symm
      | ⟨1, _⟩ => (Nat.zero_add _).symm)
  have e1 : extractStridedSlice S10000x21 ![0, 1] top Facts.slices_S10000x22_S10000x21_0_1 (ix2 i a) = top (ix2 i ⟨a.val + 1, by omega⟩) :=
    extractStridedSlice_apply _ top _ (ix2 i a) (ix2 i ⟨a.val + 1, by omega⟩) (fun b => match b with
      | ⟨0, _⟩ => (Nat.zero_add _).symm
      | ⟨1, _⟩ => Nat.add_comm _ _)
  rw [← e0, ← e1]
  exact gt_of _ _ h'

/-- A comparison read as a number is one or zero. -/
theorem ind_le (x y : EReal) : (((BitVec.ofBool (decide (x ≤ y))).toNat : ℝ) : EReal) = if x ≤ y then 1 else 0 := by
  by_cases h : x ≤ y <;> simp [h]

/-- The indicator of the entries at or above their row's entry of rank 20. -/
def reach : FVec Ideal S10000x10000 .f32 :=
  uitofp .f32 (cmpf .oge S (broadcastInDim S10000x10000 ![0, 1] Facts.bcast_S10000x1_S10000x10000_0_1
    (extractStridedSlice S10000x1 ![0, 20] top Facts.slices_S10000x22_S10000x1_0_20)))

theorem reach_apply (i j : Fin 10000) :
    (reach S top (ix2 i j) : EReal) = if (top (ix2 i ⟨20, by omega⟩) : EReal) ≤ S (ix2 i j) then 1 else 0 := by
  have hv : broadcastInDim S10000x10000 ![0, 1] Facts.bcast_S10000x1_S10000x10000_0_1
      (extractStridedSlice S10000x1 ![0, 20] top Facts.slices_S10000x22_S10000x1_0_20) (ix2 i j) = top (ix2 i ⟨20, by omega⟩) := by
    refine (broadcastInDim_apply _ Facts.bcast_S10000x1_S10000x10000_0_1 _ (ix2 i j) (ix2 i 0) (fun a => match a with
      | ⟨0, _⟩ => by show i.val = if (10000 : Nat) = 1 then 0 else i.val; rw [if_neg (by decide)]
      | ⟨1, _⟩ => by show 0 = if (1 : Nat) = 1 then 0 else j.val; rw [if_pos rfl])).trans ?_
    exact extractStridedSlice_apply _ top _ (ix2 i 0) (ix2 i ⟨20, by omega⟩) (fun b => match b with
      | ⟨0, _⟩ => (Nat.zero_add _).symm
      | ⟨1, _⟩ => rfl)
  show ((((BitVec.ofBool (decide ((broadcastInDim S10000x10000 ![0, 1] Facts.bcast_S10000x1_S10000x10000_0_1
      (extractStridedSlice S10000x1 ![0, 20] top Facts.slices_S10000x22_S10000x1_0_20) (ix2 i j) : EReal) ≤ S (ix2 i j)))).toNat : ℝ) : EReal)) = _
  rw [hv]
  exact ind_le _ _

/-- The indicator by lane: chunk `c`, lane `l` is column `128 c + l`, and nothing past the last column. -/
theorem lanes_apply (R : FVec Ideal S10000x10000 .f32) (i : Fin 10000) (c : Fin 79) (l : Fin 128) :
    (shapeCast S10000x79x128 (pad S10000x10112 ![0, 0] ![0, 112] ![0, 0] R (constant (F := Ideal) S_ .f32 0x00000000#32)
        Facts.pads_S10000x10000_S10000x10112_000_01120 Facts.h_S_) Facts.shapeCasts_S10000x10112_S10000x79x128 (ix3 i c l) : EReal)
      = if h : 128 * c.val + l.val < 10000 then R (ix2 i ⟨128 * c.val + l.val, h⟩) else 0 := by
  refine (shapeCast_apply _ _ _ (ix2 i (⟨128 * c.val + l.val, by omega⟩ : Fin 10112)) (by
    rw [Shape.rowMajor_val_two, Shape.rowMajor_val_three]
    show i.val * 10112 + (128 * c.val + l.val) = (i.val * 79 + c.val) * 128 + l.val
    omega)).trans ?_
  by_cases h : 128 * c.val + l.val < 10000
  · rw [dif_pos h]
    exact pad_apply_of_inside _ _ _ R _ _ _ _ (ix2 i ⟨128 * c.val + l.val, h⟩) (fun a => match a with
      | ⟨0, _⟩ => by show i.val = 0 + i.val * (0 + 1); omega
      | ⟨1, _⟩ => by show 128 * c.val + l.val = 0 + (128 * c.val + l.val) * (0 + 1); omega)
  · rw [dif_neg h]
    refine (pad_apply_of_not_inside _ _ _ R _ _ _ _ (1 : Fin 2) ?_).trans Ideal.ofBits_zero_f32
    rintro ⟨_, _, h3⟩
    have h4 : (128 * c.val + l.val - 0) / (0 + 1) < 10000 := h3
    rw [Nat.sub_zero, Nat.div_one] at h4
    exact h h4

/-- The second result all ones: at most six entries of any lane of a row reach its entry of rank 20. -/
theorem lanes_of (h : (fn_part1 (F := Ideal) S top).2 = fun _ => 1#1) (i : Fin 10000) (l : Fin 128) :
    ((Finset.range 79).filter fun c => ∃ hc : 128 * c + l.val < 10000,
      (top (ix2 i ⟨20, by omega⟩) : EReal) ≤ S (ix2 i ⟨128 * c + l.val, hc⟩)).card ≤ 6 := by
  have h' := congrFun h (ix2 i l)
  have k : (Host.reduceAdd (shapeCast S10000x79x128 (pad S10000x10112 ![0, 0] ![0, 112] ![0, 0] (reach S top)
      (constant (F := Ideal) S_ .f32 0x00000000#32) Facts.pads_S10000x10000_S10000x10112_000_01120 Facts.h_S_)
      Facts.shapeCasts_S10000x10112_S10000x79x128) (constant (F := Ideal) S_ .f32 0x00000000#32)
      Facts.reducesTo_S10000x79x128_S10000x128_d1 Facts.h_S_ (ix2 i l) : EReal) ≤ Ideal.ofBits .f32 0x40C00000#32 := le_of _ _ h'
  rw [Cert.KernelIdeal.Value.lit_six] at k
  have e : (Host.reduceAdd (shapeCast S10000x79x128 (pad S10000x10112 ![0, 0] ![0, 112] ![0, 0] (reach S top)
      (constant (F := Ideal) S_ .f32 0x00000000#32) Facts.pads_S10000x10000_S10000x10112_000_01120 Facts.h_S_)
      Facts.shapeCasts_S10000x10112_S10000x79x128) (constant (F := Ideal) S_ .f32 0x00000000#32)
      Facts.reducesTo_S10000x79x128_S10000x128_d1 Facts.h_S_ (ix2 i l) : EReal)
      = ∑ c : Fin 79, if ∃ hc : 128 * c.val + l.val < 10000,
          (top (ix2 i ⟨20, by omega⟩) : EReal) ≤ S (ix2 i ⟨128 * c.val + l.val, hc⟩) then (1 : EReal) else 0 := by
    have hl := fun c => lanes_apply (reach S top) i c l
    have hr := fun j => reach_apply S top i j
    generalize reach S top = R at hl hr ⊢
    generalize shapeCast S10000x79x128 (pad S10000x10112 ![0, 0] ![0, 112] ![0, 0] R
      (constant (F := Ideal) S_ .f32 0x00000000#32) Facts.pads_S10000x10000_S10000x10112_000_01120 Facts.h_S_)
      Facts.shapeCasts_S10000x10112_S10000x79x128 = y at hl ⊢
    simp only [Host.reduceAdd, Ideal.hostReduceAdd_def]
    rw [Ideal.hostReduceAdd_single Facts.reducesTo_S10000x79x128_S10000x128_d1 (by decide)]
    refine (congrArg (· + _) Ideal.ofBits_zero_f32).trans ((zero_add _).trans (Finset.sum_congr rfl fun c _ => ?_))
    rw [show (Shape.Reduces.lift (by decide : S10000x79x128.Reduces [1] S10000x128) (ix2 i l) c : S10000x79x128.Idx) = ix3 i c l from
      funext fun a => Fin.ext (match a with
        | ⟨0, _⟩ => rfl
        | ⟨1, _⟩ => rfl
        | ⟨2, _⟩ => rfl)]
    refine (hl c).trans ?_
    by_cases hc : 128 * c.val + l.val < 10000
    · rw [dif_pos hc, hr]
      exact if_congr ⟨fun q => ⟨hc, q⟩, fun ⟨_, q⟩ => q⟩ rfl rfl
    · rw [dif_neg hc, if_neg fun ⟨q, _⟩ => hc q]
  rw [e, Finset.sum_fin_eq_sum_range] at k
  rw [Finset.sum_congr rfl (g := fun c => if ∃ hc : 128 * c + l.val < 10000,
      (top (ix2 i ⟨20, by omega⟩) : EReal) ≤ S (ix2 i ⟨128 * c + l.val, hc⟩) then (1 : EReal) else 0)
    (fun c hc => dif_pos (Finset.mem_range.1 hc)), Finset.sum_boole] at k
  exact_mod_cast k

/-- Both results all ones: every row is sorted as the algebra asks. -/
theorem sorted_of (ht : ∀ (i : Fin 10000) (a : Fin 22),
      (top (ix2 i a) : EReal) = S (ix2 i (order (fun j => (S (ix2 i j) : EReal)) ⟨a.val, by omega⟩)))
    (h₁ : (fn_part1 (F := Ideal) S top).1 = fun _ => 1#1) (h₂ : (fn_part1 (F := Ideal) S top).2 = fun _ => 1#1)
    (i : Fin 10000) : Sorted (fun j => (S (ix2 i j) : EReal)) (order fun j => (S (ix2 i j) : EReal)) where
  surj := order_surj fun j => (S (ix2 i j) : EReal)
  anti := order_anti fun j => (S (ix2 i j) : EReal)
  strict a ha := by
    have k := strict_of S top h₁ i ⟨a, ha⟩
    rw [ht, ht] at k
    exact k
  lanes l hl := by
    have k := lanes_of S top h₂ i ⟨l, hl⟩
    simp only [ht] at k
    exact k

end Tail

end Cert.Pre_separated
-- ==== Proof.Similar.lean ====
/-
  The reference's similarities and its mask, at an index: the products of the normalized rows, and one where the
  column has rank below 21 in its row.
-/
module

public import proofs.«01_k».proof.Proof.Rank
public import proofs.«01_k».proof.Proof.Block
public import proofs.«01_k».proof.Proof.Gen.ReferenceIdeal.Read
public import Idealize.ShloMosaic.Lib.Routing.OpsPair
public import Idealize.ShloMosaic.Lib.Routing.OpsSet

@[expose] public section

noncomputable section

open Idealize.ShloMosaic Idealize.ShloMosaic.TcCoe Idealize.ShloMosaic.ValueIdx Idealize.SL.Sem

namespace Cert.ReferenceIdeal.Read

open Cert.ReferenceIdeal Cert.ReferenceIdeal.Gen Cert.Graph

/-! ## An index given by its coordinates -/

theorem at1 {α : Type} {n : ℕ} (y : (⟨1, ![n]⟩ : Shape).Idx → α) (f : (⟨1, ![n]⟩ : Shape).Idx) (i : Fin n)
    (h0 : f 0 = i) : y f = y (ix1 i) :=
  congrArg y (funext fun a => match a with | ⟨0, _⟩ => h0)

theorem at2 {α : Type} {m n : ℕ} (y : (⟨2, ![m, n]⟩ : Shape).Idx → α) (f : (⟨2, ![m, n]⟩ : Shape).Idx) (i : Fin m) (j : Fin n)
    (h0 : f 0 = i) (h1 : f 1 = j) : y f = y (ix2 i j) :=
  congrArg y (funext fun a => match a with
    | ⟨0, _⟩ => h0
    | ⟨1, _⟩ => h1)

variable (x0 : (⟨S10000x512, .f32⟩ : BufTy).Contents (Elt Ideal)) (x1 : (⟨S512x512, .f32⟩ : BufTy).Contents (Elt Ideal))
  (x2 : (⟨S512, .f32⟩ : BufTy).Contents (Elt Ideal)) (x3 : (⟨S512x512, .f32⟩ : BufTy).Contents (Elt Ideal))
  (x4 : (⟨S512, .f32⟩ : BufTy).Contents (Elt Ideal))

/-- The normalized rows of the arguments. -/
def unit (i : Fin 10000) : Fin 512 → EReal :=
  embed (fun l => x0 (ix2 i l)) (fun l k => x1 (ix2 l k)) (fun k => x2 (ix1 k)) (fun l k => x3 (ix2 l k)) (fun k => x4 (ix1 k))

/-- The first layer before its positive part. -/
theorem v3_at (i : Fin 10000) (k : Fin 512) : (val_main_v3 (F := Ideal) x0 x1 x2 (ix2 i k) : EReal)
    = dense (fun l => x0 (ix2 i l)) (fun l k => x1 (ix2 l k)) (fun k => x2 (ix1 k)) k := by
  refine (val_main_v3_apply x0 x1 x2 _).trans (congrArg₂ (fun a b : EReal => a + b) ?_ ?_)
  · refine (val_main_v0_apply x0 x1 _).trans (Finset.sum_congr rfl fun l _ => ?_)
    exact congrArg₂ (fun a b : EReal => a * b) (at2 x0 _ i l rfl rfl) (at2 x1 _ l k rfl rfl)
  · rw [val_main_v2_apply, val_main_v1_apply]
    exact at1 x2 _ k rfl

/-- The first layer. -/
theorem v4_at (i : Fin 10000) (k : Fin 512) : (val_main_v4 (F := Ideal) x0 x1 x2 (ix2 i k) : EReal)
    = relu (dense (fun l => x0 (ix2 i l)) (fun l k => x1 (ix2 l k)) (fun k => x2 (ix1 k))) k := by
  refine (val_main_v4_apply x0 x1 x2 _).trans (congrArg₂ (fun a b : EReal => max a b) (v3_at x0 x1 x2 i k) ?_)
  rw [val_main_call0_v0_apply]
  exact Ideal.ofBits_zero_f32

/-- The second layer. -/
theorem v8_at (i : Fin 10000) (k : Fin 512) : (val_main_v8 (F := Ideal) x0 x1 x2 x3 x4 (ix2 i k) : EReal)
    = dense (relu (dense (fun l => x0 (ix2 i l)) (fun l k => x1 (ix2 l k)) (fun k => x2 (ix1 k))))
        (fun l k => x3 (ix2 l k)) (fun k => x4 (ix1 k)) k := by
  refine (val_main_v8_apply x0 x1 x2 x3 x4 _).trans (congrArg₂ (fun a b : EReal => a + b) ?_ ?_)
  · refine (val_main_v5_apply x0 x1 x2 x3 _).trans (Finset.sum_congr rfl fun l _ => ?_)
    exact congrArg₂ (fun a b : EReal => a * b) ((at2 (val_main_v4 (F := Ideal) x0 x1 x2) _ i l rfl rfl).trans (v4_at x0 x1 x2 i l))
      (at2 x3 _ l k rfl rfl)
  · rw [val_main_v7_apply, val_main_v6_apply]
    exact at1 x4 _ k rfl

/-- The squared length of a row of the second layer. -/
theorem norm_at (i : Fin 10000) : (val_main_call1_v1 (F := Ideal) x0 x1 x2 x3 x4 (ix1 i) : EReal)
    = ∑ l, val_main_v8 (F := Ideal) x0 x1 x2 x3 x4 (ix2 i l) * val_main_v8 (F := Ideal) x0 x1 x2 x3 x4 (ix2 i l) := by
  refine (val_main_call1_v1_apply x0 x1 x2 x3 x4 _).trans ?_
  refine (congrArg (fun a : EReal => a + _) Ideal.ofBits_zero_f32).trans ((zero_add _).trans (Finset.sum_congr rfl fun l _ => ?_))
  exact (at2 (val_main_call1_v0 (F := Ideal) x0 x1 x2 x3 x4) _ i l rfl rfl).trans (val_main_call1_v0_apply x0 x1 x2 x3 x4 _)

/-- The length of a row, or the small constant. -/
theorem v11_at (i : Fin 10000) : (val_main_v11 (F := Ideal) x0 x1 x2 x3 x4 (ix2 i 0) : EReal)
    = max (Ideal.sqrt (val_main_call1_v1 (F := Ideal) x0 x1 x2 x3 x4 (ix1 i))) (Ideal.ofBits .f32 0x2B8CBCCC#32) := by
  rw [val_main_v11_apply, val_main_v9_apply, val_main_call1_v2_apply, val_main_v10_apply,
    at1 (val_main_call1_v1 (F := Ideal) x0 x1 x2 x3 x4) _ i rfl]
  generalize val_main_call1_v1 (F := Ideal) x0 x1 x2 x3 x4 (ix1 i) = w
  rfl

/-- The normalized rows. -/
theorem v13_at (i : Fin 10000) (k : Fin 512) : (val_main_v13 (F := Ideal) x0 x1 x2 x3 x4 (ix2 i k) : EReal) = unit x0 x1 x2 x3 x4 i k := by
  have e : (val_main_v13 (F := Ideal) x0 x1 x2 x3 x4 (ix2 i k) : EReal)
      = Ideal.div (val_main_v8 (F := Ideal) x0 x1 x2 x3 x4 (ix2 i k)) (val_main_v11 (F := Ideal) x0 x1 x2 x3 x4 (ix2 i 0)) := by
    rw [val_main_v13_apply, val_main_v12_apply, at2 (val_main_v11 (F := Ideal) x0 x1 x2 x3 x4) _ i 0 rfl rfl]
    rfl
  rw [e, v11_at, norm_at, unit, embed, unitRow, ← v8_at]
  simp only [← v8_at]

/-- The similarities. -/
theorem v15_at (i j : Fin 10000) : (val_main_v15 (F := Ideal) x0 x1 x2 x3 x4 (ix2 i j) : EReal)
    = ∑ k, unit x0 x1 x2 x3 x4 i k * unit x0 x1 x2 x3 x4 j k := by
  refine (val_main_v15_apply x0 x1 x2 x3 x4 _).trans (Finset.sum_congr rfl fun k _ => ?_)
  refine congrArg₂ (fun a b : EReal => a * b)
    ((at2 (val_main_v13 (F := Ideal) x0 x1 x2 x3 x4) _ i k rfl rfl).trans (v13_at x0 x1 x2 x3 x4 i k)) ?_
  rw [val_main_v14_apply]
  exact (at2 (val_main_v13 (F := Ideal) x0 x1 x2 x3 x4) _ j k rfl rfl).trans (v13_at x0 x1 x2 x3 x4 j k)

/-! ## The mask -/

/-- A word below the extent is not wrapped. -/
theorem wrap_at (n : Fin 10000) (a : BitVec 32) :
    Scalar.select (IntOp.cmpi .slt (BitVec.ofNat 32 n.val) 0#32) a (BitVec.ofNat 32 n.val) = BitVec.ofNat 32 n.val :=
  Routing.wrap_of_lt _ _ (by rw [BitVec.toNat_ofNat]; omega)

/-- The words of the rows. -/
theorem v30_at (i : Fin 10000) (a : Fin 21) : val_main_v30 (F := Ideal) (ix3 i a 0) = BitVec.ofNat 32 i.val := by
  rw [val_main_v30_apply, val_main_v29_apply, val_main_v23_apply, val_main_v20_apply, val_main_v17_apply, val_main_v19_apply]
  exact wrap_at i _

/-- The words of the top columns. -/
theorem v31_at (i : Fin 10000) (a : Fin 21) : val_main_v31 (F := Ideal) x0 x1 x2 x3 x4 (ix3 i a 0)
    = BitVec.ofNat 32 (order (fun j => (val_main_v15 (F := Ideal) x0 x1 x2 x3 x4 (ix2 i j) : EReal)) ⟨a.val, by omega⟩).val := by
  have hi : val_main_indices (F := Ideal) x0 x1 x2 x3 x4 (ix2 i a)
      = BitVec.ofNat 32 (order (fun j => (val_main_v15 (F := Ideal) x0 x1 x2 x3 x4 (ix2 i j) : EReal)) ⟨a.val, by omega⟩).val :=
    top_indices (val_main_v15 (F := Ideal) x0 x1 x2 x3 x4) sliceFits_S10000x10000_S10000x21 i a (by omega)
  rw [val_main_v31_apply]
  refine (at2 (val_main_v28 (F := Ideal) x0 x1 x2 x3 x4) _ i a rfl rfl).trans ?_
  rw [val_main_v28_apply, val_main_v25_apply, val_main_v24_apply, hi]
  exact wrap_at _ _

/-- The pairs of words: first the row's … -/
theorem v32_row (i : Fin 10000) (a : Fin 21) : val_main_v32 (F := Ideal) x0 x1 x2 x3 x4 (ix3 i a 0) = BitVec.ofNat 32 i.val := by
  unfold val_main_v32
  refine (concatenate_apply_piece (t := S10000x21x2) 2 [⟨S10000x21x1, (val_main_v30 (F := Ideal))⟩, ⟨S10000x21x1, (val_main_v31 (F := Ideal) x0 x1 x2 x3 x4)⟩] concatenates_S10000x21x1_S10000x21x1_S10000x21x2_d2 (ix3 i a 0) 0 (by simp)
    S10000x21x1 (val_main_v30 (F := Ideal)) rfl rfl 0 (by simp) (ix3 i a 0)
    (fun b hb => by fin_cases b <;> first | rfl | exact absurd rfl hb) rfl).trans (v30_at i a)

/-- … then the column's. -/
theorem v32_col (i : Fin 10000) (a : Fin 21) : val_main_v32 (F := Ideal) x0 x1 x2 x3 x4 (ix3 i a 1)
    = BitVec.ofNat 32 (order (fun j => (val_main_v15 (F := Ideal) x0 x1 x2 x3 x4 (ix2 i j) : EReal)) ⟨a.val, by omega⟩).val := by
  unfold val_main_v32
  refine (concatenate_apply_piece (t := S10000x21x2) 2 [⟨S10000x21x1, (val_main_v30 (F := Ideal))⟩, ⟨S10000x21x1, (val_main_v31 (F := Ideal) x0 x1 x2 x3 x4)⟩] concatenates_S10000x21x1_S10000x21x1_S10000x21x2_d2 (ix3 i a 1) 1 (by simp)
    S10000x21x1 (val_main_v31 (F := Ideal) x0 x1 x2 x3 x4) rfl rfl 1 (by simp) (ix3 i a 0)
    (fun b hb => by fin_cases b <;> first | rfl | exact absurd rfl hb) rfl).trans (v31_at x0 x1 x2 x3 x4 i a)

/-- The mask: one where the column has rank below 21 in its row, zero elsewhere. -/
theorem v34_at (i j : Fin 10000) : (val_main_v34 (F := Ideal) x0 x1 x2 x3 x4 (ix2 i j) : EReal)
    = if ∃ a : Fin 10000, a.val < 21 ∧ order (fun j => (val_main_v15 (F := Ideal) x0 x1 x2 x3 x4 (ix2 i j) : EReal)) a = j then 1 else 0 := by
  have lands : ∀ (p : Fin 10000) (a : Fin 21),
      scatter_S10000x10000_S10000x21x2_S10000x21_n_01_01_2.resultIdx? (ix2 p a) (val_main_v32 (F := Ideal) x0 x1 x2 x3 x4) = some (ix2 i j)
        ↔ p = i ∧ order (fun j => (val_main_v15 (F := Ideal) x0 x1 x2 x3 x4 (ix2 p j) : EReal)) ⟨a.val, by omega⟩ = j := by
    intro p a
    rw [Routing.scatter_lands2 _ rfl rfl rfl, v32_row, v32_col,
      StableHlo.Predicate.toInt_ofNat_small _ (by omega), StableHlo.Predicate.toInt_ofNat_small _ (by omega)]
    rw [Fin.ext_iff, Fin.ext_iff]
    omega
  have ones : ∀ u, (val_main_v33 (F := Ideal) u : EReal) = 1 := fun u => by
    rw [val_main_v33_apply]; exact Cert.KernelIdeal.Value.lit_one
  unfold val_main_v34
  split_ifs with h
  · obtain ⟨a, ha, hj⟩ := h
    exact Routing.scatter_set_hit _ _ _ _ _ (1 : EReal) (fun u _ => ones u) (ix2 i ⟨a.val, ha⟩) ((lands i ⟨a.val, ha⟩).2 ⟨rfl, hj⟩)
  · refine (Routing.scatter_set_miss _ _ _ _ _ fun u hu => h ?_).trans ?_
    · have e : u = ix2 (u 0) (u 1) := funext fun b => match b with
        | ⟨0, _⟩ => rfl
        | ⟨1, _⟩ => rfl
      rw [e] at hu
      obtain ⟨hp, hq⟩ := (lands (u 0) (u 1)).1 hu
      rw [hp] at hq
      exact ⟨_, (u 1).isLt, hq⟩
    · rw [val_main_v18_apply]
      exact Ideal.ofBits_zero_f32

end Cert.ReferenceIdeal.Read
-- ==== Proof.Reference.lean ====
/-
  The reference's result at an index: the normalized adjacency of the graph on the normalized rows, where every row of
  similarities is sorted as the algebra asks.
-/
module

public import proofs.«01_k».proof.Proof.Similar

@[expose] public section

noncomputable section

open Idealize.ShloMosaic Idealize.ShloMosaic.TcCoe Idealize.ShloMosaic.ValueIdx Idealize.SL.Sem

namespace Cert.ReferenceIdeal.Read

open Cert.ReferenceIdeal Cert.ReferenceIdeal.Gen Cert.Graph
open Cert.KernelIdeal.Value (lit_six lit_one)

theorem lit_two : Ideal.ofBits .f32 0x40000000#32 = ((2 : ℝ) : EReal) := by
  simp [Ideal.ofBits, Ideal.ieee, -EReal.coe_mul]; norm_num

/-- A value where it is above zero, its exponential less one elsewhere, as the reference writes it. -/
theorem elu_eq (w : EReal) :
    Scalar.select (FloatOps.cmpf (F := Ideal) (φ := .f32) .ogt w (0 : EReal)) w
      ((1 : EReal) * (Ideal.exp (Scalar.select (FloatOps.cmpf (F := Ideal) (φ := .f32) .ogt w (0 : EReal)) (0 : EReal) w) - 1)) = elu w := by
  show (if BitVec.ofBool (decide ((0 : EReal) < w)) = 1 then w
    else 1 * (Ideal.exp (if BitVec.ofBool (decide ((0 : EReal) < w)) = 1 then (0 : EReal) else w) - 1)) = elu w
  rw [elu]
  by_cases h : 0 < w <;> simp [h]

theorem sums_eq (z : Fin 10000 → Fin 10000 → EReal) (i : Fin 10000) :
    (∑ j, kept z i j) + ∑ j, kept z j i = rowSum z i + colSum z i := by
  unfold rowSum colSum
  exact Eq.refl _

/-- A row of the symmetrized activations, summed. -/
theorem total (z : Fin 10000 → Fin 10000 → EReal) (i : Fin 10000) (f : Fin 10000 → EReal)
    (hf : ∀ j, f j = bg + ((2⁻¹ : ℝ) : EReal) * (kept z i j + kept z j i)) :
    0 + ∑ j, f j = bg * 10000 + ((2⁻¹ : ℝ) : EReal) * (rowSum z i + colSum z i) := by
  have h : f = fun j => bg + ((2⁻¹ : ℝ) : EReal) * (kept z i j + kept z j i) := funext hf
  subst h
  rw [← sums_eq, ← degree, zero_add]

variable (x0 : (⟨S10000x512, .f32⟩ : BufTy).Contents (Elt Ideal)) (x1 : (⟨S512x512, .f32⟩ : BufTy).Contents (Elt Ideal))
  (x2 : (⟨S512, .f32⟩ : BufTy).Contents (Elt Ideal)) (x3 : (⟨S512x512, .f32⟩ : BufTy).Contents (Elt Ideal))
  (x4 : (⟨S512, .f32⟩ : BufTy).Contents (Elt Ideal))

/-- The masked similarity, scaled and shifted. -/
theorem v39_at (y : S10000x10000.Idx) : (val_main_v39 (F := Ideal) x0 x1 x2 x3 x4 y : EReal)
    = (val_main_v15 (F := Ideal) x0 x1 x2 x3 x4 y * val_main_v34 (F := Ideal) x0 x1 x2 x3 x4 y) * 6 - 6 := by
  rw [val_main_v39_apply, val_main_v37_apply, val_main_v35_apply, val_main_v36_apply, val_main_v38_apply]
  generalize val_main_v15 (F := Ideal) x0 x1 x2 x3 x4 y = s
  generalize val_main_v34 (F := Ideal) x0 x1 x2 x3 x4 y = t
  show (s * t) * Ideal.ofBits .f32 0x40C00000#32 - Ideal.ofBits .f32 0x40C00000#32 = _
  rw [lit_six]

/-- The activation, plus one. -/
theorem v42_elu (y : S10000x10000.Idx) : (val_main_v42 (F := Ideal) x0 x1 x2 x3 x4 y : EReal)
    = elu (val_main_v39 (F := Ideal) x0 x1 x2 x3 x4 y) + 1 := by
  rw [val_main_v42_apply, val_main_v40_apply, val_main_call2_v1_apply, val_main_call2_v7_apply, val_main_call2_v5_apply,
    val_main_call2_v4_apply, val_main_call2_v3_apply, val_main_call2_v0_apply, val_main_call2_v2_apply, val_main_call2_v6_apply,
    val_main_call2_call0_v1_apply, val_main_v41_apply]
  generalize val_main_v39 (F := Ideal) x0 x1 x2 x3 x4 y = w
  show Scalar.select (FloatOps.cmpf (F := Ideal) (φ := .f32) .ogt w (Ideal.ofBits .f32 0x00000000#32)) w
      (Ideal.ofBits .f32 0x3F800000#32 * (Ideal.exp (Scalar.select (FloatOps.cmpf (F := Ideal) (φ := .f32) .ogt w (Ideal.ofBits .f32 0x00000000#32))
        (Ideal.ofBits .f32 0x00000000#32) w) - 1)) + Ideal.ofBits .f32 0x3F800000#32 = _
  rw [Ideal.ofBits_zero_f32, lit_one, elu_eq]

/-- The rows of similarities. -/
abbrev sims (i j : Fin 10000) : EReal := val_main_v15 (F := Ideal) x0 x1 x2 x3 x4 (ix2 i j)

theorem edge_eq (i j : Fin 10000) : edge (unit x0 x1 x2 x3 x4) i j = act (sims x0 x1 x2 x3 x4 i j) := by
  rw [edge, sims, v15_at]

variable (H : ∀ i, Sorted (sims x0 x1 x2 x3 x4 i) (order (sims x0 x1 x2 x3 x4 i)))

include H

/-- The masked activation plus one: the background, and the activation less it where it reaches its row's threshold. -/
theorem v42_at (i j : Fin 10000) : (val_main_v42 (F := Ideal) x0 x1 x2 x3 x4 (ix2 i j) : EReal)
    = bg + kept (edge (unit x0 x1 x2 x3 x4)) i j := by
  have ht : thr (edge (unit x0 x1 x2 x3 x4) i) = act (sims x0 x1 x2 x3 x4 i (order (sims x0 x1 x2 x3 x4 i) ⟨20, by omega⟩)) := by
    rw [← (H i).thr_eq act act_mono act_ne_bot]
    exact congrArg thr (funext fun j => edge_eq x0 x1 x2 x3 x4 i j)
  have hm : (∃ a : Fin 10000, a.val < 21 ∧ order (sims x0 x1 x2 x3 x4 i) a = j)
      ↔ thr (edge (unit x0 x1 x2 x3 x4) i) ≤ edge (unit x0 x1 x2 x3 x4) i j := by
    rw [(H i).mem_iff, ht, edge_eq, act_mono.le_iff_le]
  rw [v42_elu, v39_at, v34_at, kept]
  show elu ((sims x0 x1 x2 x3 x4 i j * if ∃ a : Fin 10000, a.val < 21 ∧ order (sims x0 x1 x2 x3 x4 i) a = j then 1 else 0) * 6 - 6) + 1 = _
  by_cases h : thr (edge (unit x0 x1 x2 x3 x4) i) ≤ edge (unit x0 x1 x2 x3 x4) i j
  · rw [if_pos (hm.2 h), if_pos h, elu_kept, edge_eq]
  · rw [if_neg (fun q => h (hm.1 q)), if_neg h, elu_dropped]

/-- The symmetrized activation. -/
theorem v46_at (i j : Fin 10000) : (val_main_v46 (F := Ideal) x0 x1 x2 x3 x4 (ix2 i j) : EReal)
    = bg + ((2⁻¹ : ℝ) : EReal) * (kept (edge (unit x0 x1 x2 x3 x4)) i j + kept (edge (unit x0 x1 x2 x3 x4)) j i) := by
  rw [val_main_v46_apply, val_main_v44_apply, val_main_v43_apply, val_main_v45_apply,
    at2 (val_main_v42 (F := Ideal) x0 x1 x2 x3 x4) (idx_main_v43 (ix2 i j)) j i rfl rfl]
  have e₁ := v42_at x0 x1 x2 x3 x4 H i j
  have e₂ := v42_at x0 x1 x2 x3 x4 H j i
  generalize val_main_v42 (F := Ideal) x0 x1 x2 x3 x4 (ix2 i j) = u at e₁ ⊢
  generalize val_main_v42 (F := Ideal) x0 x1 x2 x3 x4 (ix2 j i) = v at e₂ ⊢
  show Ideal.div (u + v) (Ideal.ofBits .f32 0x40000000#32) = _
  rw [lit_two, Ideal.div_coe (by norm_num), e₁, e₂, one_div, half_pair]

/-- The degrees. -/
theorem v47_at (i : Fin 10000) : (val_main_v47 (F := Ideal) x0 x1 x2 x3 x4 (ix1 i) : EReal)
    = bg * 10000 + ((2⁻¹ : ℝ) : EReal) * (rowSum (edge (unit x0 x1 x2 x3 x4)) i + colSum (edge (unit x0 x1 x2 x3 x4)) i) := by
  have hz : (val_main_cst_9 (F := Ideal) (Shape.Idx.first h_S_) : EReal) = 0 := Ideal.ofBits_zero_f32
  have hj : ∀ j : Fin 10000, (val_main_v46 (F := Ideal) x0 x1 x2 x3 x4 (idx_main_v47 (ix1 i) j) : EReal)
      = bg + ((2⁻¹ : ℝ) : EReal) * (kept (edge (unit x0 x1 x2 x3 x4)) i j + kept (edge (unit x0 x1 x2 x3 x4)) j i) := fun j => by
    rw [at2 (val_main_v46 (F := Ideal) x0 x1 x2 x3 x4) (idx_main_v47 (ix1 i) j) i j rfl rfl, v46_at x0 x1 x2 x3 x4 H]
  have e := val_main_v47_apply x0 x1 x2 x3 x4 (ix1 i)
  rw [hz] at e
  exact e.trans (total (edge (unit x0 x1 x2 x3 x4)) i _ hj)

/-- The reciprocal roots of the degrees. -/
theorem v52_at (i : Fin 10000) : (val_main_v52 (F := Ideal) x0 x1 x2 x3 x4 (ix1 i) : EReal)
    = scale (rowSum (edge (unit x0 x1 x2 x3 x4)) i) (colSum (edge (unit x0 x1 x2 x3 x4)) i) := by
  rw [val_main_v52_apply, val_main_v50_apply, val_main_v48_apply, val_main_v49_apply, val_main_v51_apply, scale]
  have e := v47_at x0 x1 x2 x3 x4 H i
  generalize val_main_v47 (F := Ideal) x0 x1 x2 x3 x4 (ix1 i) = w at e ⊢
  show Ideal.div (Ideal.ofBits .f32 0x3F800000#32) (Ideal.sqrt w + Ideal.ofBits .f32 0x2EDBE6FF#32) = _
  rw [lit_one, e]

/-- The result. -/
theorem v58_at (i j : Fin 10000) : (val_main_v58 (F := Ideal) x0 x1 x2 x3 x4 (ix2 i j) : EReal)
    = adjacency (unit x0 x1 x2 x3 x4) i j := by
  rw [val_main_v58_apply, val_main_v55_apply, val_main_v54_apply, val_main_v53_apply, val_main_v57_apply, val_main_v56_apply,
    at1 (val_main_v52 (F := Ideal) x0 x1 x2 x3 x4) _ i rfl,
    at1 (val_main_v52 (F := Ideal) x0 x1 x2 x3 x4) (idx_main_v56 (idx_main_v57 (ix2 i j))) j rfl]
  have e₁ := v52_at x0 x1 x2 x3 x4 H i
  have e₂ := v52_at x0 x1 x2 x3 x4 H j
  have e₃ := v46_at x0 x1 x2 x3 x4 H i j
  generalize val_main_v52 (F := Ideal) x0 x1 x2 x3 x4 (ix1 i) = u at e₁ ⊢
  generalize val_main_v52 (F := Ideal) x0 x1 x2 x3 x4 (ix1 j) = v at e₂ ⊢
  generalize val_main_v46 (F := Ideal) x0 x1 x2 x3 x4 (ix2 i j) = w at e₃ ⊢
  show u * w * v = _
  rw [adjacency, halves, twice, e₁, e₂, e₃, kept, kept, edge_comm _ j i, mul_right_comm]

end Cert.ReferenceIdeal.Read
-- ==== Proof.lean ====
/-
  The certificate: the frames of the three programs, and the equality of the kernel's normalized adjacency with the
  reference's wherever the precondition holds.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Run
public import proofs.«01_k».proof.Proof.Separated
public import proofs.«01_k».proof.Proof.Reference
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.ShloMosaic.ValueIdx Idealize.SL.Sem
open Cert.Graph

section Rows

variable (x0 : (⟨Cert.ReferenceIdeal.S10000x512, .f32⟩ : BufTy).Contents (Elt Ideal)) (x1 : (⟨Cert.ReferenceIdeal.S512x512, .f32⟩ : BufTy).Contents (Elt Ideal))
  (x2 : (⟨Cert.ReferenceIdeal.S512, .f32⟩ : BufTy).Contents (Elt Ideal)) (x3 : (⟨Cert.ReferenceIdeal.S512x512, .f32⟩ : BufTy).Contents (Elt Ideal))
  (x4 : (⟨Cert.ReferenceIdeal.S512, .f32⟩ : BufTy).Contents (Elt Ideal))

/-- Where the precondition holds, every row of similarities is sorted as the algebra asks. -/
theorem sorted (h₁ : (Cert.Pre_separated.fn (F := Ideal) x0 x1 x2 x3 x4).1 = fun _ => 1#1)
    (h₂ : (Cert.Pre_separated.fn (F := Ideal) x0 x1 x2 x3 x4).2 = fun _ => 1#1) (i : Fin 10000) :
    Sorted (Cert.ReferenceIdeal.Read.sims x0 x1 x2 x3 x4 i) (order (Cert.ReferenceIdeal.Read.sims x0 x1 x2 x3 x4 i)) := by
  rw [Cert.Pre_separated.fn_eq] at h₁ h₂
  exact Cert.Pre_separated.sorted_of (Cert.ReferenceIdeal.Read.val_main_v15 (F := Ideal) x0 x1 x2 x3 x4) _
    (fun i a => top_values (Cert.ReferenceIdeal.Read.val_main_v15 (F := Ideal) x0 x1 x2 x3 x4)
      Cert.Pre_separated.Facts.sliceFits_S10000x10000_S10000x22 i a (by omega)) h₁ h₂ i

end Rows

/-- The reference runs, its arguments end unchanged, and every semaphore ends at zero. -/
theorem frame_reference (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0) :=
  (θ_run Cert.ReferenceIdeal.defs _ _).mono (fun r h => ⟨fun c => (h c).2, sem_eq_zero_of_no_sems rfl r.2⟩)
    (Cert.ReferenceIdeal.Value.run (F := Ideal) m g)

/-- The kernel and the reference end with the same result wherever the precondition holds. -/
theorem algebraic : Cert.algebraic_KernelIdeal_ReferenceIdeal_pre_separated := by
  intro m g m' g' hpre hargs
  refine ⟨fun c => Cert.KernelIdeal.Value.answer m c, Cert.KernelIdeal.Value.run m g, ?_⟩
  refine (θ_run Cert.ReferenceIdeal.defs _ _).mono (fun r h c => ⟨(h c).1.trans ?_, (h c).2⟩) (Cert.ReferenceIdeal.Value.run (F := Ideal) m' g')
  obtain ⟨h0, h1, h2, h3, h4⟩ := hargs c
  obtain ⟨hs, hl⟩ := hpre c
  rw [Cert.ReferenceIdeal.Read.val_main_v58_eq]
  have e0 : StableHlo.launchContents m' c (Proc.devRef .tc Cert.ReferenceIdeal.main_arg0) = _ := h0
  have e1 : StableHlo.launchContents m' c (Proc.devRef .tc Cert.ReferenceIdeal.main_arg1) = _ := h1
  have e2 : StableHlo.launchContents m' c (Proc.devRef .tc Cert.ReferenceIdeal.main_arg2) = _ := h2
  have e3 : StableHlo.launchContents m' c (Proc.devRef .tc Cert.ReferenceIdeal.main_arg3) = _ := h3
  have e4 : StableHlo.launchContents m' c (Proc.devRef .tc Cert.ReferenceIdeal.main_arg4) = _ := h4
  rw [e0, e1, e2, e3, e4]
  funext y
  refine (Cert.ReferenceIdeal.Read.at2 _ y (y 0) (y 1) rfl rfl).trans ?_
  exact Cert.ReferenceIdeal.Read.v58_at _ _ _ _ _ (sorted _ _ _ _ _ hs hl) (y 0) (y 1)

/-- Everything the certificate claims. -/
theorem claim : Cert.Claim :=
  ⟨Cert.Kernel.Gen.facts, Cert.KernelIdeal.Gen.facts, Cert.ReferenceIdeal.Gen.facts, Cert.Pre_separated.facts,
    fun m g _ => Cert.Kernel.Gen.frame m g, fun m g _ => Cert.KernelIdeal.Gen.frame m g, fun m g _ => Cert.KernelIdeal.Gen.frame m g,
    fun m g _ => frame_reference m g, fun m g _ => frame_reference m g, trivial, algebraic⟩

end Cert.Proof

end
